-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_forget [hPre_finite_forget : Cert.Pre_finite_forget.Facts] (m : (ℓ : Loc Cert.KernelIdeal.nD Cert.KernelIdeal.τ Cert.KernelIdeal.sig) → Buf (Elt Ideal) ℓ) : Prop :=
  ∀ c : Dev Cert.KernelIdeal.nD,
    (Cert.Pre_finite_forget.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_forget [hPre_finite_forget : Cert.Pre_finite_forget.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_forget.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_forget [hKernelIdeal : Cert.KernelIdeal.Facts] [hPre_finite_forget : Cert.Pre_finite_forget.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_forget m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_forget [hReferenceIdeal : Cert.ReferenceIdeal.Facts] [hPre_finite_forget : Cert.Pre_finite_forget.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_forget m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_forget [hKernelIdeal : Cert.KernelIdeal.Facts] [hReferenceIdeal : Cert.ReferenceIdeal.Facts] [hPre_finite_forget : Cert.Pre_finite_forget.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_forget m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v121) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.bf16_pair.BufferStatement Cert.Kernel3Ideal.S32768x2x1024 Cert.Kernel3Ideal.S32768x1x1024
  ∧ IdealRules.bf16_pair.BufferStatement Cert.Kernel3Ideal.S512x2x1024 Cert.Kernel3Ideal.S512x1x1024
  ∧ IdealRules.bf16_pair.Statement Cert.Kernel3Ideal.S512x2x1024 Cert.Kernel3Ideal.S512x1x1024
  ∧ IdealRules.bf16_pack.Statement Cert.Kernel3Ideal.S512x1024

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_forget : Cert.Pre_finite_forget.Facts),
    quiescent_Kernel (hKernel := hKernel)
    ∧ quiescent_KernelIdeal (hKernelIdeal := hKernelIdeal)
    ∧ quiescent_KernelIdeal_pre_finite_forget (hKernelIdeal := hKernelIdeal) (hPre_finite_forget := hPre_finite_forget)
    ∧ quiescent_ReferenceIdeal (hReferenceIdeal := hReferenceIdeal)
    ∧ quiescent_ReferenceIdeal_pre_finite_forget (hReferenceIdeal := hReferenceIdeal) (hPre_finite_forget := hPre_finite_forget)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_forget (hKernelIdeal := hKernelIdeal) (hReferenceIdeal := hReferenceIdeal) (hPre_finite_forget := hPre_finite_forget)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_forget.lean ====
abbrev S16x16x1024 : Shape := ⟨3, ![16, 16, 1024]⟩
abbrev S16x16x512 : Shape := ⟨3, ![16, 16, 512]⟩
abbrev S16x16x8 : Shape := ⟨3, ![16, 16, 8]⟩
abbrev S3x1024 : Shape := ⟨2, ![3, 1024]⟩
abbrev S1024 : Shape := ⟨1, ![1024]⟩
abbrev S16x2x1024 : Shape := ⟨3, ![16, 2, 1024]⟩
abbrev S16x8x64x128 : Shape := ⟨4, ![16, 8, 64, 128]⟩
abbrev S16x8x64 : Shape := ⟨3, ![16, 8, 64]⟩
abbrev S16x8 : Shape := ⟨2, ![16, 8]⟩
abbrev S_ : Shape := ⟨0, ![]⟩

class Facts : Prop where
  bcast_S_S16x16x8 : S_.BroadcastsInDim S16x16x8 (![] : Fin 0 → Fin S16x16x8.rank)
  reducesTo_S16x16x8_S_d0_1_2 : S16x16x8.ReducesTo [0, 1, 2] S_
  h_S_ : 0 < S_.numel

variable [Facts]

def fn {F : FTy → Type} [FloatOps F] (main_arg0 : FVec F S16x16x1024 .f32) (main_arg1 : FVec F S16x16x1024 .f32) (main_arg2 : FVec F S16x16x1024 .f32) (main_arg3 : FVec F S16x16x512 .f32) (main_arg4 : FVec F S16x16x512 .f32) (main_arg5 : FVec F S16x16x1024 .f32) (main_arg6 : FVec F S16x16x1024 .f32) (main_arg7 : FVec F S16x16x8 .f32) (main_arg8 : FVec F S16x16x8 .f32) (main_arg9 : FVec F S3x1024 .f32) (main_arg10 : FVec F S1024 .f32) (main_arg11 : FVec F S16x2x1024 .f32) (main_arg12 : FVec F S16x8x64x128 .f32) (main_arg13 : FVec F S16x8x64 .f32) (main_arg14 : FVec F S16x8 .f32) : IVec S_ 1 :=
  let main_v0 : FVec F S16x16x8 .f32 := Host.absf main_arg8
  let main_cst : FVec F S_ .f32 := constant S_ .f32 0x7F800000#32
  let main_v1 : FVec F S16x16x8 .f32 := broadcastInDim S16x16x8 ![] bcast_S_S16x16x8 main_cst
  let main_v2 : IVec S16x16x8 1 := cmpf .olt main_v0 main_v1
  let main_c : IVec S_ 1 := constantI S_ 1 1#1
  let main_v3 : IVec S_ 1 := (fun x v => Host.reduce IntOp.andi x v reducesTo_S16x16x8_S_d0_1_2 h_S_) main_v2 main_c
  main_v3
-- ==== Kernel.lean ====
abbrev S16x16x1024 : Shape := ⟨3, ![16, 16, 1024]⟩
abbrev S16x16x512 : Shape := ⟨3, ![16, 16, 512]⟩
abbrev S16x16x8 : Shape := ⟨3, ![16, 16, 8]⟩
abbrev S3x1024 : Shape := ⟨2, ![3, 1024]⟩
abbrev S1024 : Shape := ⟨1, ![1024]⟩
abbrev S16x2x1024 : Shape := ⟨3, ![16, 2, 1024]⟩
abbrev S16x8x64x128 : Shape := ⟨4, ![16, 8, 64, 128]⟩
abbrev S16x8x64 : Shape := ⟨3, ![16, 8, 64]⟩
abbrev S16x8 : Shape := ⟨2, ![16, 8]⟩
abbrev S16x16x5120 : Shape := ⟨3, ![16, 16, 5120]⟩
abbrev S16x4x128 : Shape := ⟨3, ![16, 4, 128]⟩
abbrev S_ : Shape := ⟨0, ![]⟩
abbrev S16x128 : Shape := ⟨2, ![16, 128]⟩
abbrev S16x1x128 : Shape := ⟨3, ![16, 1, 128]⟩
abbrev S16x16x128 : Shape := ⟨3, ![16, 16, 128]⟩
abbrev S1x1024 : Shape := ⟨2, ![1, 1024]⟩
abbrev S16x16x2048 : Shape := ⟨3, ![16, 16, 2048]⟩
abbrev S1x16x1024 : Shape := ⟨3, ![1, 16, 1024]⟩
abbrev S1x16x512 : Shape := ⟨3, ![1, 16, 512]⟩
abbrev S1x16x128 : Shape := ⟨3, ![1, 16, 128]⟩
abbrev S1x2x1024 : Shape := ⟨3, ![1, 2, 1024]⟩
abbrev S1x8x64x128 : Shape := ⟨4, ![1, 8, 64, 128]⟩
abbrev S1x4x128 : Shape := ⟨3, ![1, 4, 128]⟩
abbrev S1x1x128 : Shape := ⟨3, ![1, 1, 128]⟩
abbrev S1x16x2048 : Shape := ⟨3, ![1, 16, 2048]⟩
abbrev S128x256 : Shape := ⟨2, ![128, 256]⟩
abbrev S1x128 : Shape := ⟨2, ![1, 128]⟩
abbrev S8x256 : Shape := ⟨2, ![8, 256]⟩
abbrev S64x128 : Shape := ⟨2, ![64, 128]⟩
abbrev S1x1x64x128 : Shape := ⟨4, ![1, 1, 64, 128]⟩
abbrev S64x256 : Shape := ⟨2, ![64, 256]⟩
abbrev S1x2x256 : Shape := ⟨3, ![1, 2, 256]⟩
abbrev S2x256 : Shape := ⟨2, ![2, 256]⟩
abbrev S16x16 : Shape := ⟨2, ![16, 16]⟩
abbrev S1x16x256 : Shape := ⟨3, ![1, 16, 256]⟩
abbrev S16x256 : Shape := ⟨2, ![16, 256]⟩
abbrev S1x256 : Shape := ⟨2, ![1, 256]⟩
abbrev S112x128 : Shape := ⟨2, ![112, 128]⟩
abbrev S128x128 : Shape := ⟨2, ![128, 128]⟩
abbrev S128x16 : Shape := ⟨2, ![128, 16]⟩
abbrev S32x128 : Shape := ⟨2, ![32, 128]⟩
abbrev S144x128 : Shape := ⟨2, ![144, 128]⟩
abbrev S32x144 : Shape := ⟨2, ![32, 144]⟩
abbrev S32x256 : Shape := ⟨2, ![32, 256]⟩
abbrev S16x1 : Shape := ⟨2, ![16, 1]⟩
abbrev S1x16 : Shape := ⟨2, ![1, 16]⟩
abbrev S16 : Shape := ⟨1, ![16]⟩
abbrev S112x256 : Shape := ⟨2, ![112, 256]⟩
abbrev S1x1 : Shape := ⟨2, ![1, 1]⟩
abbrev S128 : Shape := ⟨1, ![128]⟩

abbrev nBuf : Space → Nat
  | .hbm => 34
  | .vmem => 51
  | .smem => 0
  | _ => 0

abbrev bufTy : (tb : Table) → Fin (tcTables nBuf tb) → BufTy
  | .hbm, ⟨0, _⟩ => ⟨S16x16x1024, .f32⟩
  | .hbm, ⟨1, _⟩ => ⟨S16x16x1024, .f32⟩
  | .hbm, ⟨2, _⟩ => ⟨S16x16x1024, .f32⟩
  | .hbm, ⟨3, _⟩ => ⟨S16x16x512, .f32⟩
  | .hbm, ⟨4, _⟩ => ⟨S16x16x512, .f32⟩
  | .hbm, ⟨5, _⟩ => ⟨S16x16x1024, .f32⟩
  | .hbm, ⟨6, _⟩ => ⟨S16x16x1024, .f32⟩
  | .hbm, ⟨7, _⟩ => ⟨S16x16x8, .f32⟩
  | .hbm, ⟨8, _⟩ => ⟨S16x16x8, .f32⟩
  | .hbm, ⟨9, _⟩ => ⟨S3x1024, .f32⟩
  | .hbm, ⟨10, _⟩ => ⟨S1024, .f32⟩
  | .hbm, ⟨11, _⟩ => ⟨S16x2x1024, .f32⟩
  | .hbm, ⟨12, _⟩ => ⟨S16x8x64x128, .f32⟩
  | .hbm, ⟨13, _⟩ => ⟨S16x8x64, .f32⟩
  | .hbm, ⟨14, _⟩ => ⟨S16x8, .f32⟩
  | .hbm, ⟨15, _⟩ => ⟨S16x16x5120, .f32⟩
  | .hbm, ⟨16, _⟩ => ⟨S16x16x1024, .bf16⟩
  | .hbm, ⟨17, _⟩ => ⟨S16x4x128, .f32⟩
  | .hbm, ⟨18, _⟩ => ⟨S_, .i32⟩
  | .hbm, ⟨19, _⟩ => ⟨S_, .f32⟩
  | .hbm, ⟨20, _⟩ => ⟨S16x128, .f32⟩
  | .hbm, ⟨21, _⟩ => ⟨S16x1x128, .f32⟩
  | .hbm, ⟨22, _⟩ => ⟨S_, .i32⟩
  | .hbm, ⟨23, _⟩ => ⟨S_, .f32⟩
  | .hbm, ⟨24, _⟩ => ⟨S16x16x128, .f32⟩
  | .hbm, ⟨25, _⟩ => ⟨S_, .i32⟩
  | .hbm, ⟨26, _⟩ => ⟨S_, .f32⟩
  | .hbm, ⟨27, _⟩ => ⟨S16x16x128, .f32⟩
  | .hbm, ⟨28, _⟩ => ⟨S1x1024, .f32⟩
  | .hbm, ⟨29, _⟩ => ⟨S16x16x2048, .bf16⟩
  | .hbm, ⟨30, _⟩ => ⟨S16x2x1024, .f32⟩
  | .hbm, ⟨31, _⟩ => ⟨S16x8x64x128, .f32⟩
  | .hbm, ⟨32, _⟩ => ⟨S16x4x128, .f32⟩
  | .hbm, ⟨33, _⟩ => ⟨S16x1x128, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .f32⟩
  | .local _ .vmem, ⟨7, _⟩ => ⟨S1x16x512, .f32⟩
  | .local _ .vmem, ⟨8, _⟩ => ⟨S1x16x512, .f32⟩
  | .local _ .vmem, ⟨9, _⟩ => ⟨S1x16x512, .f32⟩
  | .local _ .vmem, ⟨10, _⟩ => ⟨S1x16x1024, .bf16⟩
  | .local _ .vmem, ⟨11, _⟩ => ⟨S1x16x1024, .bf16⟩
  | .local _ .vmem, ⟨12, _⟩ => ⟨S1x16x1024, .f32⟩
  | .local _ .vmem, ⟨13, _⟩ => ⟨S1x16x1024, .f32⟩
  | .local _ .vmem, ⟨14, _⟩ => ⟨S1x16x128, .f32⟩
  | .local _ .vmem, ⟨15, _⟩ => ⟨S1x16x128, .f32⟩
  | .local _ .vmem, ⟨16, _⟩ => ⟨S1x16x128, .f32⟩
  | .local _ .vmem, ⟨17, _⟩ => ⟨S1x16x128, .f32⟩
  | .local _ .vmem, ⟨18, _⟩ => ⟨S3x1024, .f32⟩
  | .local _ .vmem, ⟨19, _⟩ => ⟨S1x1024, .f32⟩
  | .local _ .vmem, ⟨20, _⟩ => ⟨S1x2x1024, .f32⟩
  | .local _ .vmem, ⟨21, _⟩ => ⟨S1x2x1024, .f32⟩
  | .local _ .vmem, ⟨22, _⟩ => ⟨S1x8x64x128, .f32⟩
  | .local _ .vmem, ⟨23, _⟩ => ⟨S1x8x64x128, .f32⟩
  | .local _ .vmem, ⟨24, _⟩ => ⟨S1x4x128, .f32⟩
  | .local _ .vmem, ⟨25, _⟩ => ⟨S1x4x128, .f32⟩
  | .local _ .vmem, ⟨26, _⟩ => ⟨S1x1x128, .f32⟩
  | .local _ .vmem, ⟨27, _⟩ => ⟨S1x1x128, .f32⟩
  | .local _ .vmem, ⟨28, _⟩ => ⟨S1x16x2048, .bf16⟩
  | .local _ .vmem, ⟨29, _⟩ => ⟨S1x16x2048, .bf16⟩
  | .local _ .vmem, ⟨30, _⟩ => ⟨S1x2x1024, .f32⟩
  | .local _ .vmem, ⟨31, _⟩ => ⟨S1x2x1024, .f32⟩
  | .local _ .vmem, ⟨32, _⟩ => ⟨S1x8x64x128, .f32⟩
  | .local _ .vmem, ⟨33, _⟩ => ⟨S1x8x64x128, .f32⟩
  | .local _ .vmem, ⟨34, _⟩ => ⟨S1x4x128, .f32⟩
  | .local _ .vmem, ⟨35, _⟩ => ⟨S1x4x128, .f32⟩
  | .local _ .vmem, ⟨36, _⟩ => ⟨S1x1x128, .f32⟩
  | .local _ .vmem, ⟨37, _⟩ => ⟨S1x1x128, .f32⟩
  | .local _ .vmem, ⟨38, _⟩ => ⟨S128x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S8x256, .f32⟩
  | .local _ .vmem, ⟨48, _⟩ => ⟨S8x256, .f32⟩
  | .local _ .vmem, ⟨49, _⟩ => ⟨S8x256, .f32⟩
  | .local _ .vmem, ⟨50, _⟩ => ⟨S8x256, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_call1_v0 : Ref sig .tc := ⟨.hbm, 23, rfl⟩
abbrev main_v5 : Ref sig .tc := ⟨.hbm, 24, rfl⟩
abbrev main_c_1 : Ref sig .tc := ⟨.hbm, 25, rfl⟩
abbrev main_call2_v0 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v8_2 : Ref sig .tc := ⟨.hbm, 31, rfl⟩
abbrev main_v8_3 : Ref sig .tc := ⟨.hbm, 32, rfl⟩
abbrev main_v8_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_scratch8 : Ref sig .tc := ⟨.vmem, 46, rfl⟩
abbrev cc0_scratch9 : Ref sig .tc := ⟨.vmem, 47, rfl⟩
abbrev cc0_scratch10 : Ref sig .tc := ⟨.vmem, 48, rfl⟩
abbrev cc0_scratch11 : Ref sig .tc := ⟨.vmem, 49, rfl⟩
abbrev cc0_scratch12 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![16, 1], ![false, false]⟩

def k0_mult1 : BitVec 32 :=
  let c0_i32_2 : BitVec 32 := 0#32
  let c16_i32 : BitVec 32 := 16#32
  let v15 : BitVec 32 := Scalar.muli c0_i32_2 c16_i32
  v15
def k0_off1 : Fin 3 → Nat :=
  let c0 : Index := 0#32
  let c0_i32_2 : BitVec 32 := 0#32
  let c16_i32 : BitVec 32 := 16#32
  let v15 : BitVec 32 := Scalar.muli c0_i32_2 c16_i32
  let v16 : BitVec 32 := v15
  let v17 : Index := Scalar.indexCast v16
  let c0_3 : Index := 0#32
  ![0, v17.toNat, 0]
def k0_off2 : Fin 3 → Nat :=
  let c0_17 : Index := 0#32
  let c0_i32_2 : BitVec 32 := 0#32
  let c16_i32 : BitVec 32 := 16#32
  let v15 : BitVec 32 := Scalar.muli c0_i32_2 c16_i32
  let v16 : BitVec 32 := v15
  let v62 : Index := Scalar.indexCast v16
  let c256 : Index := 256#32
  ![0, v62.toNat, 256]
def k0_off3 : Fin 3 → Nat :=
  let c0_35 : Index := 0#32
  let c0_i32_2 : BitVec 32 := 0#32
  let c16_i32 : BitVec 32 := 16#32
  let v15 : BitVec 32 := Scalar.muli c0_i32_2 c16_i32
  let v16 : BitVec 32 := v15
  let v107 : Index := Scalar.indexCast v16
  let c512 : Index := 512#32
  ![0, v107.toNat, 512]
def k0_off4 : Fin 3 → Nat :=
  let c0_53 : Index := 0#32
  let c0_i32_2 : BitVec 32 := 0#32
  let c16_i32 : BitVec 32 := 16#32
  let v15 : BitVec 32 := Scalar.muli c0_i32_2 c16_i32
  let v16 : BitVec 32 := v15
  let v152 : Index := Scalar.indexCast v16
  let c768 : Index := 768#32
  ![0, v152.toNat, 768]
def k0_off5 : Fin 3 → Nat :=
  let c0_71 : Index := 0#32
  let c0_i32_2 : BitVec 32 := 0#32
  let c16_i32 : BitVec 32 := 16#32
  let v15 : BitVec 32 := Scalar.muli c0_i32_2 c16_i32
  let v16 : BitVec 32 := v15
  let v197 : Index := Scalar.indexCast v16
  let c0_72 : Index := 0#32
  ![0, v197.toNat, 0]
def k0_off6 : Fin 3 → Nat :=
  let c0_93 : Index := 0#32
  let c0_i32_2 : BitVec 32 := 0#32
  let c16_i32 : BitVec 32 := 16#32
  let v15 : BitVec 32 := Scalar.muli c0_i32_2 c16_i32
  let v16 : BitVec 32 := v15
  let v263 : Index := Scalar.indexCast v16
  let c0_94 : Index := 0#32
  ![0, v263.toNat, 0]
def k0_off7 : Fin 3 → Nat :=
  let c0_110 : Index := 0#32
  let c0_i32_2 : BitVec 32 := 0#32
  let c16_i32 : BitVec 32 := 16#32
  let v15 : BitVec 32 := Scalar.muli c0_i32_2 c16_i32
  let v16 : BitVec 32 := v15
  let v303 : Index := Scalar.indexCast v16
  let c0_111 : Index := 0#32
  ![0, v303.toNat, 0]
def k0_off8 : Fin 3 → Nat :=
  let c0_123 : Index := 0#32
  let c0_i32_2 : BitVec 32 := 0#32
  let c16_i32 : BitVec 32 := 16#32
  let v15 : BitVec 32 := Scalar.muli c0_i32_2 c16_i32
  let v16 : BitVec 32 := v15
  let v359 : Index := Scalar.indexCast v16
  let c128 : Index := 128#32
  ![0, v359.toNat, 128]
def k0_off9 : Fin 3 → Nat :=
  let c0_139 : Index := 0#32
  let c0_i32_2 : BitVec 32 := 0#32
  let c16_i32 : BitVec 32 := 16#32
  let v15 : BitVec 32 := Scalar.muli c0_i32_2 c16_i32
  let v16 : BitVec 32 := v15
  let v443 : Index := Scalar.indexCast v16
  let c128_140 : Index := 128#32
  ![0, v443.toNat, 128]
def k0_off10 : Fin 3 → Nat :=
  let c0_156 : Index := 0#32
  let c0_i32_2 : BitVec 32 := 0#32
  let c16_i32 : BitVec 32 := 16#32
  let v15 : BitVec 32 := Scalar.muli c0_i32_2 c16_i32
  let v16 : BitVec 32 := v15
  let v483 : Index := Scalar.indexCast v16
  let c256_157 : Index := 256#32
  ![0, v483.toNat, 256]
def k0_off11 : Fin 3 → Nat :=
  let c0_169 : Index := 0#32
  let c0_i32_2 : BitVec 32 := 0#32
  let c16_i32 : BitVec 32 := 16#32
  let v15 : BitVec 32 := Scalar.muli c0_i32_2 c16_i32
  let v16 : BitVec 32 := v15
  let v539 : Index := Scalar.indexCast v16
  let c384 : Index := 384#32
  ![0, v539.toNat, 384]
def k0_off12 : Fin 3 → Nat :=
  let c0_185 : Index := 0#32
  let c0_i32_2 : BitVec 32 := 0#32
  let c16_i32 : BitVec 32 := 16#32
  let v15 : BitVec 32 := Scalar.muli c0_i32_2 c16_i32
  let v16 : BitVec 32 := v15
  let v623 : Index := Scalar.indexCast v16
  let c256_186 : Index := 256#32
  ![0, v623.toNat, 256]
def k0_off13 : Fin 3 → Nat :=
  let c0_202 : Index := 0#32
  let c0_i32_2 : BitVec 32 := 0#32
  let c16_i32 : BitVec 32 := 16#32
  let v15 : BitVec 32 := Scalar.muli c0_i32_2 c16_i32
  let v16 : BitVec 32 := v15
  let v663 : Index := Scalar.indexCast v16
  let c512_203 : Index := 512#32
  ![0, v663.toNat, 512]
def k0_off14 : Fin 3 → Nat :=
  let c0_215 : Index := 0#32
  let c0_i32_2 : BitVec 32 := 0#32
  let c16_i32 : BitVec 32 := 16#32
  let v15 : BitVec 32 := Scalar.muli c0_i32_2 c16_i32
  let v16 : BitVec 32 := v15
  let v719 : Index := Scalar.indexCast v16
  let c640 : Index := 640#32
  ![0, v719.toNat, 640]
def k0_off15 : Fin 3 → Nat :=
  let c0_231 : Index := 0#32
  let c0_i32_2 : BitVec 32 := 0#32
  let c16_i32 : BitVec 32 := 16#32
  let v15 : BitVec 32 := Scalar.muli c0_i32_2 c16_i32
  let v16 : BitVec 32 := v15
  let v803 : Index := Scalar.indexCast v16
  let c384_232 : Index := 384#32
  ![0, v803.toNat, 384]
def k0_off16 : Fin 3 → Nat :=
  let c0_248 : Index := 0#32
  let c0_i32_2 : BitVec 32 := 0#32
  let c16_i32 : BitVec 32 := 16#32
  let v15 : BitVec 32 := Scalar.muli c0_i32_2 c16_i32
  let v16 : BitVec 32 := v15
  let v843 : Index := Scalar.indexCast v16
  let c768_249 : Index := 768#32
  ![0, v843.toNat, 768]
def k0_off17 : Fin 3 → Nat :=
  let c0_261 : Index := 0#32
  let c0_i32_2 : BitVec 32 := 0#32
  let c16_i32 : BitVec 32 := 16#32
  let v15 : BitVec 32 := Scalar.muli c0_i32_2 c16_i32
  let v16 : BitVec 32 := v15
  let v899 : Index := Scalar.indexCast v16
  let c896 : Index := 896#32
  ![0, v899.toNat, 896]
def k0_off18 : Fin 3 → Nat :=
  let c0_277 : Index := 0#32
  let c0_i32_2 : BitVec 32 := 0#32
  let c16_i32 : BitVec 32 := 16#32
  let v15 : BitVec 32 := Scalar.muli c0_i32_2 c16_i32
  let v16 : BitVec 32 := v15
  let v983 : Index := Scalar.indexCast v16
  let c0_278 : Index := 0#32
  ![0, v983.toNat, 0]
def k0_off19 : Fin 3 → Nat :=
  let c0_280 : Index := 0#32
  let c0_i32_2 : BitVec 32 := 0#32
  let c16_i32 : BitVec 32 := 16#32
  let v15 : BitVec 32 := Scalar.muli c0_i32_2 c16_i32
  let v16 : BitVec 32 := v15
  let v990 : Index := Scalar.indexCast v16
  let c256_281 : Index := 256#32
  ![0, v990.toNat, 256]
def k0_off20 : Fin 3 → Nat :=
  let c0_284 : Index := 0#32
  let c0_i32_2 : BitVec 32 := 0#32
  let c16_i32 : BitVec 32 := 16#32
  let v15 : BitVec 32 := Scalar.muli c0_i32_2 c16_i32
  let v16 : BitVec 32 := v15
  let v997 : Index := Scalar.indexCast v16
  let c512_285 : Index := 512#32
  ![0, v997.toNat, 512]
def k0_off21 : Fin 3 → Nat :=
  let c0_288 : Index := 0#32
  let c0_i32_2 : BitVec 32 := 0#32
  let c16_i32 : BitVec 32 := 16#32
  let v15 : BitVec 32 := Scalar.muli c0_i32_2 c16_i32
  let v16 : BitVec 32 := v15
  let v1004 : Index := Scalar.indexCast v16
  let c768_289 : Index := 768#32
  ![0, v1004.toNat, 768]
def k0_off22 : Fin 3 → Nat :=
  let c0_294 : Index := 0#32
  let c0_i32_2 : BitVec 32 := 0#32
  let c16_i32 : BitVec 32 := 16#32
  let v15 : BitVec 32 := Scalar.muli c0_i32_2 c16_i32
  let v16 : BitVec 32 := v15
  let v1014 : Index := Scalar.indexCast v16
  let c1024 : Index := 1024#32
  ![0, v1014.toNat, 1024]
def k0_off23 : Fin 3 → Nat :=
  let c0_295 : Index := 0#32
  let c0_i32_2 : BitVec 32 := 0#32
  let c16_i32 : BitVec 32 := 16#32
  let v15 : BitVec 32 := Scalar.muli c0_i32_2 c16_i32
  let v16 : BitVec 32 := v15
  let v1018 : Index := Scalar.indexCast v16
  let c1152 : Index := 1152#32
  ![0, v1018.toNat, 1152]
def k0_off24 : Fin 3 → Nat :=
  let c0_296 : Index := 0#32
  let c0_i32_2 : BitVec 32 := 0#32
  let c16_i32 : BitVec 32 := 16#32
  let v15 : BitVec 32 := Scalar.muli c0_i32_2 c16_i32
  let v16 : BitVec 32 := v15
  let v1022 : Index := Scalar.indexCast v16
  let c1280 : Index := 1280#32
  ![0, v1022.toNat, 1280]
def k0_off25 : Fin 3 → Nat :=
  let c0_297 : Index := 0#32
  let c0_i32_2 : BitVec 32 := 0#32
  let c16_i32 : BitVec 32 := 16#32
  let v15 : BitVec 32 := Scalar.muli c0_i32_2 c16_i32
  let v16 : BitVec 32 := v15
  let v1026 : Index := Scalar.indexCast v16
  let c1408 : Index := 1408#32
  ![0, v1026.toNat, 1408]
def k0_off26 : Fin 3 → Nat :=
  let c0_298 : Index := 0#32
  let c0_i32_2 : BitVec 32 := 0#32
  let c16_i32 : BitVec 32 := 16#32
  let v15 : BitVec 32 := Scalar.muli c0_i32_2 c16_i32
  let v16 : BitVec 32 := v15
  let v1030 : Index := Scalar.indexCast v16
  let c1536 : Index := 1536#32
  ![0, v1030.toNat, 1536]
def k0_off27 : Fin 3 → Nat :=
  let c0_299 : Index := 0#32
  let c0_i32_2 : BitVec 32 := 0#32
  let c16_i32 : BitVec 32 := 16#32
  let v15 : BitVec 32 := Scalar.muli c0_i32_2 c16_i32
  let v16 : BitVec 32 := v15
  let v1034 : Index := Scalar.indexCast v16
  let c1664 : Index := 1664#32
  ![0, v1034.toNat, 1664]
def k0_off28 : Fin 3 → Nat :=
  let c0_300 : Index := 0#32
  let c0_i32_2 : BitVec 32 := 0#32
  let c16_i32 : BitVec 32 := 16#32
  let v15 : BitVec 32 := Scalar.muli c0_i32_2 c16_i32
  let v16 : BitVec 32 := v15
  let v1038 : Index := Scalar.indexCast v16
  let c1792 : Index := 1792#32
  ![0, v1038.toNat, 1792]
def k0_off29 : Fin 3 → Nat :=
  let c0_301 : Index := 0#32
  let c0_i32_2 : BitVec 32 := 0#32
  let c16_i32 : BitVec 32 := 16#32
  let v15 : BitVec 32 := Scalar.muli c0_i32_2 c16_i32
  let v16 : BitVec 32 := v15
  let v1042 : Index := Scalar.indexCast v16
  let c1920 : Index := 1920#32
  ![0, v1042.toNat, 1920]
def k0_cond2 (i : grid0.Coords) : BitVec 1 :=
  let arg1 : BitVec 32 := BitVec.ofNat 32 (i 1).val
  let c0_i32_319 : BitVec 32 := 0#32
  let v1070 : BitVec 1 := Scalar.cmpi .eq arg1 c0_i32_319
  let v1071 : BitVec 32 := Scalar.extui v1070
  let c0_i32_320 : BitVec 32 := 0#32
  let v1072 : BitVec 1 := Scalar.cmpi .ne v1071 c0_i32_320
  v1072

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x4x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S16x16x1024 : Shape := ⟨3, ![16, 16, 1024]⟩
abbrev S16x16x512 : Shape := ⟨3, ![16, 16, 512]⟩
abbrev S16x16x8 : Shape := ⟨3, ![16, 16, 8]⟩
abbrev S3x1024 : Shape := ⟨2, ![3, 1024]⟩
abbrev S1024 : Shape := ⟨1, ![1024]⟩
abbrev S16x2x1024 : Shape := ⟨3, ![16, 2, 1024]⟩
abbrev S16x8x64x128 : Shape := ⟨4, ![16, 8, 64, 128]⟩
abbrev S16x8x64 : Shape := ⟨3, ![16, 8, 64]⟩
abbrev S16x8 : Shape := ⟨2, ![16, 8]⟩
abbrev S16x18x1024 : Shape := ⟨3, ![16, 18, 1024]⟩
abbrev S1x1024 : Shape := ⟨2, ![1, 1024]⟩
abbrev S1x1x1024 : Shape := ⟨3, ![1, 1, 1024]⟩
abbrev S16x16x8x64 : Shape := ⟨4, ![16, 16, 8, 64]⟩
abbrev S_ : Shape := ⟨0, ![]⟩
abbrev S16x16x8x128 : Shape := ⟨4, ![16, 16, 8, 128]⟩
abbrev S16x8x16x64 : Shape := ⟨4, ![16, 8, 16, 64]⟩
abbrev S16x8x16x128 : Shape := ⟨4, ![16, 8, 16, 128]⟩
abbrev S16x8x16 : Shape := ⟨3, ![16, 8, 16]⟩
abbrev S16x8x1 : Shape := ⟨3, ![16, 8, 1]⟩
abbrev S16x8x16x1 : Shape := ⟨4, ![16, 8, 16, 1]⟩
abbrev S16x8x1x16 : Shape := ⟨4, ![16, 8, 1, 16]⟩
abbrev S16x8x16x16 : Shape := ⟨4, ![16, 8, 16, 16]⟩
abbrev S16x16 : Shape := ⟨2, ![16, 16]⟩
abbrev S16x8x1x1 : Shape := ⟨4, ![16, 8, 1, 1]⟩
abbrev S16x16x8x1 : Shape := ⟨4, ![16, 16, 8, 1]⟩
abbrev S16x16x2048 : Shape := ⟨3, ![16, 16, 2048]⟩
abbrev S16x4x128 : Shape := ⟨3, ![16, 4, 128]⟩
abbrev S16x128 : Shape := ⟨2, ![16, 128]⟩
abbrev S16x1x128 : Shape := ⟨3, ![16, 1, 128]⟩

abbrev nBuf : Space → Nat
  | .hbm => 162
  | .vmem => 0
  | .smem => 0
  | _ => 0

abbrev hbmTy0_0 (i : Nat) : BufTy := match i % 128 with
  | 0 => ⟨S16x16x1024, .f32⟩
  | 1 => ⟨S16x16x1024, .f32⟩
  | 2 => ⟨S16x16x1024, .f32⟩
  | 3 => ⟨S16x16x512, .f32⟩
  | 4 => ⟨S16x16x512, .f32⟩
  | 5 => ⟨S16x16x1024, .f32⟩
  | 6 => ⟨S16x16x1024, .f32⟩
  | 7 => ⟨S16x16x8, .f32⟩
  | 8 => ⟨S16x16x8, .f32⟩
  | 9 => ⟨S3x1024, .f32⟩
  | 10 => ⟨S1024, .f32⟩
  | 11 => ⟨S16x2x1024, .f32⟩
  | 12 => ⟨S16x8x64x128, .f32⟩
  | 13 => ⟨S16x8x64, .f32⟩
  | 14 => ⟨S16x8, .f32⟩
  | 15 => ⟨S16x16x1024, .f32⟩
  | 16 => ⟨S16x18x1024, .f32⟩
  | 17 => ⟨S16x16x1024, .f32⟩
  | 18 => ⟨S1x1024, .f32⟩
  | 19 => ⟨S1024, .f32⟩
  | 20 => ⟨S1x1x1024, .f32⟩
  | 21 => ⟨S16x16x1024, .f32⟩
  | 22 => ⟨S16x16x1024, .f32⟩
  | 23 => ⟨S16x16x1024, .f32⟩
  | 24 => ⟨S1x1024, .f32⟩
  | 25 => ⟨S1024, .f32⟩
  | 26 => ⟨S1x1x1024, .f32⟩
  | 27 => ⟨S16x16x1024, .f32⟩
  | 28 => ⟨S16x16x1024, .f32⟩
  | 29 => ⟨S16x16x1024, .f32⟩
  | 30 => ⟨S16x16x1024, .f32⟩
  | 31 => ⟨S1x1024, .f32⟩
  | 32 => ⟨S1024, .f32⟩
  | 33 => ⟨S1x1x1024, .f32⟩
  | 34 => ⟨S16x16x1024, .f32⟩
  | 35 => ⟨S16x16x1024, .f32⟩
  | 36 => ⟨S16x16x1024, .f32⟩
  | 37 => ⟨S16x16x1024, .f32⟩
  | 38 => ⟨S16x2x1024, .f32⟩
  | 39 => ⟨S16x16x8x64, .f32⟩
  | 40 => ⟨S16x16x8x64, .f32⟩
  | 41 => ⟨S_, .f32⟩
  | 42 => ⟨S16x16x8x64, .f32⟩
  | 43 => ⟨S16x16x8x64, .f32⟩
  | 44 => ⟨S16x16x8x128, .f32⟩
  | 45 => ⟨S16x8x16x64, .f32⟩
  | 46 => ⟨S16x8x16x64, .f32⟩
  | 47 => ⟨S16x8x16x128, .f32⟩
  | 48 => ⟨S16x8x16, .f32⟩
  | 49 => ⟨S16x8x16, .f32⟩
  | 50 => ⟨S_, .f32⟩
  | 51 => ⟨S_, .f32⟩
  | 52 => ⟨S16x8x16, .f32⟩
  | 53 => ⟨S16x8x1, .f32⟩
  | 54 => ⟨S16x8x16, .f32⟩
  | 55 => ⟨S16x8x16, .f32⟩
  | 56 => ⟨S16x8x16x1, .f32⟩
  | 57 => ⟨S16x8x1x16, .f32⟩
  | 58 => ⟨S16x8x16x16, .f32⟩
  | 59 => ⟨S16x8x16x16, .f32⟩
  | 60 => ⟨S16x8x16x16, .f32⟩
  | 61 => ⟨S16x8x1x16, .f32⟩
  | 62 => ⟨S16x8x16x16, .f32⟩
  | 63 => ⟨S16x8x16x16, .f32⟩
  | 64 => ⟨S_, .i1⟩
  | 65 => ⟨S16x16, .i1⟩
  | 66 => ⟨S16x16, .i32⟩
  | 67 => ⟨S_, .i32⟩
  | 68 => ⟨S16x16, .i32⟩
  | 69 => ⟨S16x16, .i32⟩
  | 70 => ⟨S16x16, .i32⟩
  | 71 => ⟨S16x16, .i1⟩
  | 72 => ⟨S_, .i1⟩
  | 73 => ⟨S16x16, .i1⟩
  | 74 => ⟨S16x16, .i1⟩
  | 75 => ⟨S_, .f32⟩
  | 76 => ⟨S_, .f32⟩
  | 77 => ⟨S16x8x16x16, .i1⟩
  | 78 => ⟨S16x8x16x16, .f32⟩
  | 79 => ⟨S16x8x16x16, .f32⟩
  | 80 => ⟨S_, .f32⟩
  | 81 => ⟨S16x8x16, .f32⟩
  | 82 => ⟨S16x8x16, .f32⟩
  | 83 => ⟨S16x8x16, .f32⟩
  | 84 => ⟨S16x8x16, .f32⟩
  | 85 => ⟨S16x8x16x1, .f32⟩
  | 86 => ⟨S16x8x16x16, .f32⟩
  | 87 => ⟨S16x8x16x16, .f32⟩
  | 88 => ⟨S16x8x16x16, .f32⟩
  | 89 => ⟨S16x8x16x16, .f32⟩
  | 90 => ⟨S16x8x16x16, .f32⟩
  | 91 => ⟨S16x8x16x1, .f32⟩
  | 92 => ⟨S16x8x16x128, .f32⟩
  | 93 => ⟨S16x8x16x128, .f32⟩
  | 94 => ⟨S16x8x16x128, .f32⟩
  | 95 => ⟨S16x8x16x128, .f32⟩
  | 96 => ⟨S16x8x16x128, .f32⟩
  | 97 => ⟨S16x8x16, .f32⟩
  | 98 => ⟨S16x8x16, .f32⟩
  | 99 => ⟨S_, .f32⟩
  | 100 => ⟨S16x8x16, .f32⟩
  | 101 => ⟨S16x8x16, .f32⟩
  | 102 => ⟨S16x8x16, .f32⟩
  | 103 => ⟨S16x8x16, .f32⟩
  | 104 => ⟨S16x8x16, .f32⟩
  | 105 => ⟨S16x8x16, .f32⟩
  | 106 => ⟨S16x8x16x1, .f32⟩
  | 107 => ⟨S16x8x16x128, .f32⟩
  | 108 => ⟨S16x8x16x128, .f32⟩
  | 109 => ⟨S16x8x1, .f32⟩
  | 110 => ⟨S16x8, .f32⟩
  | 111 => ⟨S16x8x1x16, .f32⟩
  | 112 => ⟨S16x8x16, .f32⟩
  | 113 => ⟨S16x8x1x1, .f32⟩
  | 114 => ⟨S16x8x64x128, .f32⟩
  | 115 => ⟨S16x8x64x128, .f32⟩
  | 116 => ⟨S16x8x16x1, .f32⟩
  | 117 => ⟨S16x8x16x64, .f32⟩
  | 118 => ⟨S16x8x16x64, .f32⟩
  | 119 => ⟨S16x8x64x128, .f32⟩
  | 120 => ⟨S16x8x64x128, .f32⟩
  | 121 => ⟨S16x8x1, .f32⟩
  | 122 => ⟨S16x8x64, .f32⟩
  | 123 => ⟨S16x8x64, .f32⟩
  | 124 => ⟨S16x8x64, .f32⟩
  | 125 => ⟨S16x8x64, .f32⟩
  | 126 => ⟨S16x8x1, .f32⟩
  | 127 => ⟨S16x8, .f32⟩
  | _ => ⟨S16x16x1024, .f32⟩

abbrev hbmTy0_1 (i : Nat) : BufTy := match i % 128 with
  | 0 => ⟨S16x16x8x128, .f32⟩
  | 1 => ⟨S16x16x8x128, .f32⟩
  | 2 => ⟨S_, .f32⟩
  | 3 => ⟨S16x16x8, .f32⟩
  | 4 => ⟨S16x16x8x1, .f32⟩
  | 5 => ⟨S_, .f32⟩
  | 6 => ⟨S16x16x8x1, .f32⟩
  | 7 => ⟨S16x16x8x1, .f32⟩
  | 8 => ⟨S_, .f32⟩
  | 9 => ⟨S16x16x8x1, .f32⟩
  | 10 => ⟨S16x16x8x1, .f32⟩
  | 11 => ⟨S16x16x8x1, .f32⟩
  | 12 => ⟨S16x16x8x128, .f32⟩
  | 13 => ⟨S16x16x8x128, .f32⟩
  | 14 => ⟨S16x16x1024, .f32⟩
  | 15 => ⟨S1x1x1024, .f32⟩
  | 16 => ⟨S16x16x1024, .f32⟩
  | 17 => ⟨S16x16x1024, .f32⟩
  | 18 => ⟨S16x16x1024, .f32⟩
  | 19 => ⟨S16x16x1024, .f32⟩
  | 20 => ⟨S_, .f32⟩
  | 21 => ⟨S16x16x1024, .f32⟩
  | 22 => ⟨S16x16x1024, .f32⟩
  | 23 => ⟨S_, .f32⟩
  | 24 => ⟨S16x16x1024, .f32⟩
  | 25 => ⟨S16x16x1024, .f32⟩
  | 26 => ⟨S16x16x1024, .f32⟩
  | 27 => ⟨S16x16x2048, .f32⟩
  | 28 => ⟨S16x16x2048, .bf16⟩
  | 29 => ⟨S16x4x128, .f32⟩
  | 30 => ⟨S_, .i32⟩
  | 31 => ⟨S_, .f32⟩
  | 32 => ⟨S16x128, .f32⟩
  | 33 => ⟨S16x1x128, .f32⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_call0_cst : Ref sig .tc := ⟨.hbm, 50, rfl⟩
abbrev main_call0_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c : Ref sig .tc := ⟨.hbm, 64, rfl⟩
abbrev main_v46 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_0 : Ref sig .tc := ⟨.hbm, 72, rfl⟩
abbrev main_call1_v5 : Ref sig .tc := ⟨.hbm, 73, rfl⟩
abbrev main_v47 : Ref sig .tc := ⟨.hbm, 74, rfl⟩
abbrev main_cst_0 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v48 : Ref sig .tc := ⟨.hbm, 79, rfl⟩
abbrev main_cst_1 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_2 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_3 : Ref sig .tc := ⟨.hbm, 130, rfl⟩
abbrev main_v97 : Ref sig .tc := ⟨.hbm, 131, rfl⟩
abbrev main_v98 : Ref sig .tc := ⟨.hbm, 132, rfl⟩
abbrev main_cst_4 : Ref sig .tc := ⟨.hbm, 133, rfl⟩
abbrev main_v99 : Ref sig .tc := ⟨.hbm, 134, rfl⟩
abbrev main_v100 : Ref sig .tc := ⟨.hbm, 135, rfl⟩
abbrev main_cst_5 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_6 : Ref sig .tc := ⟨.hbm, 148, rfl⟩
abbrev main_v112 : Ref sig .tc := ⟨.hbm, 149, rfl⟩
abbrev main_v113 : Ref sig .tc := ⟨.hbm, 150, rfl⟩
abbrev main_cst_7 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_8 : Ref sig .tc := ⟨.hbm, 158, rfl⟩
abbrev main_call3_v0 : Ref sig .tc := ⟨.hbm, 159, rfl⟩
abbrev main_v120 : Ref sig .tc := ⟨.hbm, 160, rfl⟩
abbrev main_v121 : Ref sig .tc := ⟨.hbm, 161, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x6160 : Shape := ⟨2, ![2048, 6160]⟩
abbrev S16 : Shape := ⟨1, ![16]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S128 : Shape := ⟨1, ![128]⟩
abbrev S1x128 : Shape := ⟨2, ![1, 128]⟩
abbrev S32768x5120 : Shape := ⟨2, ![32768, 5120]⟩
abbrev S32768x1024 : Shape := ⟨2, ![32768, 1024]⟩
abbrev S32768x128 : Shape := ⟨2, ![32768, 128]⟩
abbrev S256x2048 : Shape := ⟨2, ![256, 2048]⟩
abbrev S256x5120 : Shape := ⟨2, ![256, 5120]⟩
abbrev S256x1024 : Shape := ⟨2, ![256, 1024]⟩
abbrev S256x128 : Shape := ⟨2, ![256, 128]⟩
abbrev S32x2048 : Shape := ⟨2, ![32, 2048]⟩
abbrev S32 : Shape := ⟨1, ![32]⟩
abbrev S32x1 : Shape := ⟨2, ![32, 1]⟩
abbrev S2048x1024 : Shape := ⟨2, ![2048, 1024]⟩

abbrev nBuf : Space → Nat
  | .hbm => 19
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6160, .f32⟩
  | .hbm, ⟨3, _⟩ => ⟨S16, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S1x2048, .f32⟩
  | .hbm, ⟨10, _⟩ => ⟨S2048x6160, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S32768x5120, .f32⟩
  | .hbm, ⟨16, _⟩ => ⟨S32768x1024, .bf16⟩
  | .hbm, ⟨17, _⟩ => ⟨S32768x128, .f32⟩
  | .hbm, ⟨18, _⟩ => ⟨S32768x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6160, .bf16⟩
  | .local _ .vmem, ⟨4, _⟩ => ⟨S2048x128, .bf16⟩
  | .local _ .vmem, ⟨5, _⟩ => ⟨S1x128, .f32⟩
  | .local _ .vmem, ⟨6, _⟩ => ⟨S256x5120, .f32⟩
  | .local _ .vmem, ⟨7, _⟩ => ⟨S256x5120, .f32⟩
  | .local _ .vmem, ⟨8, _⟩ => ⟨S256x1024, .bf16⟩
  | .local _ .vmem, ⟨9, _⟩ => ⟨S256x1024, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v52 : BitVec 32 := Scalar.muli arg11 c32_i32
  v52
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v52 : BitVec 32 := Scalar.muli arg11 c32_i32
  let v53 : BitVec 32 := v52
  let v54 : Index := Scalar.indexCast v53
  let c0_40 : Index := 0#32
  ![v54.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x2048 : Shape := ⟨2, ![32768, 2048]⟩
abbrev S2048 : Shape := ⟨1, ![2048]⟩
abbrev S2048x6160 : Shape := ⟨2, ![2048, 6160]⟩
abbrev S16 : Shape := ⟨1, ![16]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x6160 : Shape := ⟨2, ![32768, 6160]⟩
abbrev S32768x1024 : Shape := ⟨2, ![32768, 1024]⟩
abbrev S32768x512 : Shape := ⟨2, ![32768, 512]⟩
abbrev S32768x8 : Shape := ⟨2, ![32768, 8]⟩
abbrev S8 : Shape := ⟨1, ![8]⟩
abbrev S1x8 : Shape := ⟨2, ![1, 8]⟩
abbrev S32768x5120 : Shape := ⟨2, ![32768, 5120]⟩
abbrev S32768x128 : Shape := ⟨2, ![32768, 128]⟩

abbrev nBuf : Space → Nat
  | .hbm => 62
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6160, .f32⟩
  | .hbm, ⟨3, _⟩ => ⟨S16, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x6160, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x512, .f32⟩
  | .hbm, ⟨25, _⟩ => ⟨S32768x512, .f32⟩
  | .hbm, ⟨26, _⟩ => ⟨S32768x1024, .f32⟩
  | .hbm, ⟨27, _⟩ => ⟨S32768x1024, .f32⟩
  | .hbm, ⟨28, _⟩ => ⟨S32768x8, .f32⟩
  | .hbm, ⟨29, _⟩ => ⟨S32768x8, .f32⟩
  | .hbm, ⟨30, _⟩ => ⟨S8, .f32⟩
  | .hbm, ⟨31, _⟩ => ⟨S1x8, .f32⟩
  | .hbm, ⟨32, _⟩ => ⟨S32768x8, .f32⟩
  | .hbm, ⟨33, _⟩ => ⟨S32768x8, .f32⟩
  | .hbm, ⟨34, _⟩ => ⟨S8, .f32⟩
  | .hbm, ⟨35, _⟩ => ⟨S1x8, .f32⟩
  | .hbm, ⟨36, _⟩ => ⟨S32768x8, .f32⟩
  | .hbm, ⟨37, _⟩ => ⟨S32768x8, .f32⟩
  | .hbm, ⟨38, _⟩ => ⟨S32768x8, .f32⟩
  | .hbm, ⟨39, _⟩ => ⟨S_, .f32⟩
  | .hbm, ⟨40, _⟩ => ⟨S32768x8, .f32⟩
  | .hbm, ⟨41, _⟩ => ⟨S32768x8, .f32⟩
  | .hbm, ⟨42, _⟩ => ⟨S32768x8, .f32⟩
  | .hbm, ⟨43, _⟩ => ⟨S32768x8, .f32⟩
  | .hbm, ⟨44, _⟩ => ⟨S32768x8, .i1⟩
  | .hbm, ⟨45, _⟩ => ⟨S32768x8, .f32⟩
  | .hbm, ⟨46, _⟩ => ⟨S32768x8, .f32⟩
  | .hbm, ⟨47, _⟩ => ⟨S32768x8, .f32⟩
  | .hbm, ⟨48, _⟩ => ⟨S32768x8, .f32⟩
  | .hbm, ⟨49, _⟩ => ⟨S32768x8, .f32⟩
  | .hbm, ⟨50, _⟩ => ⟨S32768x8, .f32⟩
  | .hbm, ⟨51, _⟩ => ⟨S32768x8, .f32⟩
  | .hbm, ⟨52, _⟩ => ⟨S32768x8, .f32⟩
  | .hbm, ⟨53, _⟩ => ⟨S32768x8, .f32⟩
  | .hbm, ⟨54, _⟩ => ⟨S32768x5120, .f32⟩
  | .hbm, ⟨55, _⟩ => ⟨S32768x1024, .bf16⟩
  | .hbm, ⟨56, _⟩ => ⟨S_, .i32⟩
  | .hbm, ⟨57, _⟩ => ⟨S_, .f32⟩
  | .hbm, ⟨58, _⟩ => ⟨S32768x128, .f32⟩
  | .hbm, ⟨59, _⟩ => ⟨S_, .i32⟩
  | .hbm, ⟨60, _⟩ => ⟨S_, .f32⟩
  | .hbm, ⟨61, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c : Ref sig .tc := ⟨.hbm, 56, rfl⟩
abbrev main_call1_v0 : Ref sig .tc := ⟨.hbm, 57, rfl⟩
abbrev main_v34 : Ref sig .tc := ⟨.hbm, 58, rfl⟩
abbrev main_c_2 : Ref sig .tc := ⟨.hbm, 59, rfl⟩
abbrev main_call2_v0 : Ref sig .tc := ⟨.hbm, 60, rfl⟩
abbrev main_v35 : Ref sig .tc := ⟨.hbm, 61, rfl⟩

abbrev nD : Nat := 1
abbrev τ : Topo := Topo.v7x

variable {F : FTy → Type} [FloatOps F]
-- ==== Kernel3.lean ====
abbrev S32768x2048 : Shape := ⟨2, ![32768, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S32768x1024 : Shape := ⟨2, ![32768, 1024]⟩
abbrev S64x8x512 : Shape := ⟨3, ![64, 8, 512]⟩
abbrev S32768x128 : Shape := ⟨2, ![32768, 128]⟩
abbrev S512x2048 : Shape := ⟨2, ![512, 2048]⟩
abbrev S512x1024 : Shape := ⟨2, ![512, 1024]⟩
abbrev S1x8x512 : Shape := ⟨3, ![1, 8, 512]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128x128 : Shape := ⟨2, ![128, 128]⟩
abbrev S8x128 : Shape := ⟨2, ![8, 128]⟩
abbrev S8x512 : Shape := ⟨2, ![8, 512]⟩

abbrev nBuf : Space → Nat
  | .hbm => 25
  | .vmem => 20
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .f32⟩
  | .hbm, ⟨3, _⟩ => ⟨S2048, .f32⟩
  | .hbm, ⟨4, _⟩ => ⟨S2048x4, .f32⟩
  | .hbm, ⟨5, _⟩ => ⟨S4, .f32⟩
  | .hbm, ⟨6, _⟩ => ⟨S2048x32, .f32⟩
  | .hbm, ⟨7, _⟩ => ⟨S32, .f32⟩
  | .hbm, ⟨8, _⟩ => ⟨S2048x36, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S36, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S2048x2048, .bf16⟩
  | .hbm, ⟨19, _⟩ => ⟨S1x2048, .f32⟩
  | .hbm, ⟨20, _⟩ => ⟨S32768x2048, .f32⟩
  | .hbm, ⟨21, _⟩ => ⟨S32768x1024, .i32⟩
  | .hbm, ⟨22, _⟩ => ⟨S64x8x512, .i32⟩
  | .hbm, ⟨23, _⟩ => ⟨S32768x128, .f32⟩
  | .hbm, ⟨24, _⟩ => ⟨S1x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x1024, .i32⟩
  | .local _ .vmem, ⟨11, _⟩ => ⟨S512x1024, .i32⟩
  | .local _ .vmem, ⟨12, _⟩ => ⟨S1x8x512, .i32⟩
  | .local _ .vmem, ⟨13, _⟩ => ⟨S1x8x512, .i32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S512x2048, .f32⟩
  | .local _ .vmem, ⟨19, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [BitOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel3Ideal.lean ====
abbrev S32768x2048 : Shape := ⟨2, ![32768, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S32768x2x1024 : Shape := ⟨3, ![32768, 2, 1024]⟩
abbrev S64x8x512 : Shape := ⟨3, ![64, 8, 512]⟩
abbrev S32768x128 : Shape := ⟨2, ![32768, 128]⟩
abbrev S32768x1x1024 : Shape := ⟨3, ![32768, 1, 1024]⟩
abbrev S32768x1024 : Shape := ⟨2, ![32768, 1024]⟩
abbrev S512x2048 : Shape := ⟨2, ![512, 2048]⟩
abbrev S512x1024 : Shape := ⟨2, ![512, 1024]⟩
abbrev S512x2x1024 : Shape := ⟨3, ![512, 2, 1024]⟩
abbrev S512x1x1024 : Shape := ⟨3, ![512, 1, 1024]⟩
abbrev S1x8x512 : Shape := ⟨3, ![1, 8, 512]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128x128 : Shape := ⟨2, ![128, 128]⟩
abbrev S8x128 : Shape := ⟨2, ![8, 128]⟩
abbrev S8x512 : Shape := ⟨2, ![8, 512]⟩

abbrev nBuf : Space → Nat
  | .hbm => 25
  | .vmem => 20
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .f32⟩
  | .hbm, ⟨3, _⟩ => ⟨S2048, .f32⟩
  | .hbm, ⟨4, _⟩ => ⟨S2048x4, .f32⟩
  | .hbm, ⟨5, _⟩ => ⟨S4, .f32⟩
  | .hbm, ⟨6, _⟩ => ⟨S2048x32, .f32⟩
  | .hbm, ⟨7, _⟩ => ⟨S32, .f32⟩
  | .hbm, ⟨8, _⟩ => ⟨S2048x36, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S36, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S2048x2048, .bf16⟩
  | .hbm, ⟨19, _⟩ => ⟨S1x2048, .f32⟩
  | .hbm, ⟨20, _⟩ => ⟨S32768x2048, .f32⟩
  | .hbm, ⟨21, _⟩ => ⟨S32768x2x1024, .bf16⟩
  | .hbm, ⟨22, _⟩ => ⟨S64x8x512, .i32⟩
  | .hbm, ⟨23, _⟩ => ⟨S32768x128, .f32⟩
  | .hbm, ⟨24, _⟩ => ⟨S1x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x2x1024, .bf16⟩
  | .local _ .vmem, ⟨11, _⟩ => ⟨S512x2x1024, .bf16⟩
  | .local _ .vmem, ⟨12, _⟩ => ⟨S1x8x512, .i32⟩
  | .local _ .vmem, ⟨13, _⟩ => ⟨S1x8x512, .i32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S512x2048, .f32⟩
  | .local _ .vmem, ⟨19, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, 0, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S32768x2048 : Shape := ⟨2, ![32768, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .f32⟩
  | .hbm, ⟨3, _⟩ => ⟨S2048, .f32⟩
  | .hbm, ⟨4, _⟩ => ⟨S2048x4, .f32⟩
  | .hbm, ⟨5, _⟩ => ⟨S4, .f32⟩
  | .hbm, ⟨6, _⟩ => ⟨S2048x32, .f32⟩
  | .hbm, ⟨7, _⟩ => ⟨S32, .f32⟩
  | .hbm, ⟨8, _⟩ => ⟨S32768x2048, .f32⟩
  | .hbm, ⟨9, _⟩ => ⟨S32768x2048, .f32⟩
  | .hbm, ⟨10, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩

abbrev nD : Nat := 1
abbrev τ : Topo := Topo.v7x

variable {F : FTy → Type} [FloatOps F]
-- ==== Proof.Vocab.lean ====
/- The mixer block's arithmetic, said once for every head, pair of heads and convolution group.

   The generated body names each intermediate value of each head separately. Here the same value is one
   function of the head `h`, the pair `p` or the group `g`, of the blocks the grid point loads. -/
module

public import proofs.«01_k».proof.Proof.Gen.KernelIdeal.Value
public import Idealize.ShloMosaic.Lib.Pointwise
public import Idealize.ShloMosaic.Lib.VecWindow
public import Idealize.ShloMosaic.Lib.Pipeline.ValueKit.Acc

@[expose] public section

set_option maxRecDepth 16384

noncomputable section

namespace Cert.Mixer

open Cert.KernelIdeal Cert.KernelIdeal.Gen Idealize.ShloMosaic

variable {F : FTy → Type} [FloatOps F]

/-! ## Parts of a block -/

/-- Convolution group `g`'s 256 columns of a wide block. -/
def ldW (g : Fin 4) (x : Vec F S1x16x1024 .f32) : Vec F S1x16x256 .f32 :=
  View.ld x (Rect.unit ![0, 0, 256 * g.val] ![1, 16, 256] (by revert g; decide))

/-- The same columns of the two carried rows. -/
def ldC (g : Fin 4) (x : Vec F S1x2x1024 .f32) : Vec F S1x2x256 .f32 :=
  View.ld x (Rect.unit ![0, 0, 256 * g.val] ![1, 2, 256] (by revert g; decide))

/-- The same columns of row `r` of the three taps. -/
def ldT (g : Fin 4) (r : Fin 3) (x : Vec F S3x1024 .f32) : Vec F S1x256 .f32 :=
  View.ld x (Rect.unit ![r.val, 256 * g.val] ![1, 256] (by revert g r; decide))

/-- Pair `p`'s 128 columns of the queries or the keys. -/
def ldP (p : Fin 4) (x : Vec F S1x16x512 .f32) : Vec F S1x16x128 .f32 :=
  View.ld x (Rect.unit ![0, 0, 128 * p.val] ![1, 16, 128] (by revert p; decide))

/-- Pair `p`'s 256 columns of the values. -/
def ldV (p : Fin 4) (x : Vec F S1x16x1024 .bf16) : Vec F S1x16x256 .bf16 :=
  View.ld x (Rect.unit ![0, 0, 256 * p.val] ![1, 16, 256] (by revert p; decide))

/-- Head `h`'s 128 columns of the output gate. -/
def ldO (h : Fin 8) (x : Vec F S1x16x1024 .f32) : Vec F S1x16x128 .f32 :=
  View.ld x (Rect.unit ![0, 0, 128 * h.val] ![1, 16, 128] (by revert h; decide))

/-- Head `h`'s 128 gains. -/
def ldG (h : Fin 8) (x : Vec F S1x1024 .f32) : Vec F S1x128 .f32 :=
  View.ld x (Rect.unit ![0, 128 * h.val] ![1, 128] (by revert h; decide))

/-- Head `h`'s state matrix. -/
def ldM (h : Fin 8) (x : Vec F S1x8x64x128 .f32) : Vec F S1x1x64x128 .f32 :=
  View.ld x (Rect.unit ![0, h.val, 0, 0] ![1, 1, 64, 128] (by revert h; decide))

/-- Pair `p`'s normaliser row. -/
def ldN (p : Fin 4) (x : Vec F S1x4x128 .f32) : Vec F S1x1x128 .f32 :=
  View.ld x (Rect.unit ![0, p.val, 0] ![1, 1, 128] (by revert p; decide))

/-- Column `h` of a gate array. -/
def col (h : Fin 8) (v : FVec F S16x128 .f32) : FVec F S16x1 .f32 :=
  extractStridedSlice S16x1 ![0, h.val] v (by revert h; decide)

/-- Row `h` of a transposed gate array. -/
def row (h : Fin 8) (v : FVec F S128x16 .f32) : FVec F S1x16 .f32 :=
  extractStridedSlice S1x16 ![h.val, 0] v (by revert h; decide)

/-- Entry `h` of a row of gates. -/
def ent (h : Fin 8) (v : FVec F S1x128 .f32) : FVec F S1x1 .f32 :=
  extractStridedSlice S1x1 ![0, h.val] v (by revert h; decide)

/-! ## The gates -/

section Gates
variable (x7 x8 : Vec F S1x16x128 .f32) (x14 : Vec F S1x1x128 .f32)

/-- The stabiliser carried in. -/
def gM0 : FVec F S1x128 .f32 := k0_pay18 x14
/-- The running sum of the forget gates. -/
def gF : FVec F S16x128 .f32 :=
  k0_pay76 k0_pay40 (k0_pay72 x8) (k0_pay74 x8) (k0_pay75 x8)
/-- Input gate less running sum. -/
def gR : FVec F S16x128 .f32 :=
  k0_pay77 k0_pay40 (k0_pay70 x7) (k0_pay72 x8) (k0_pay74 x8) (k0_pay75 x8)
/-- Its running maximum, the carried stabiliser included. -/
def gX : FVec F S16x128 .f32 :=
  k0_pay78 k0_pay40 (k0_pay70 x7) (k0_pay72 x8) (k0_pay74 x8) (k0_pay75 x8) (gM0 x14)
/-- The stabiliser of every row. -/
def gM : FVec F S16x128 .f32 :=
  k0_pay79 k0_pay40 (k0_pay70 x7) (k0_pay72 x8) (k0_pay74 x8) (k0_pay75 x8) (gM0 x14)
/-- The negated maximum. -/
def gNX : FVec F S16x128 .f32 :=
  k0_pay80 k0_pay40 (k0_pay70 x7) (k0_pay72 x8) (k0_pay74 x8) (k0_pay75 x8) (gM0 x14)
/-- The weight of the carried state. -/
def gW : FVec F S16x128 .f32 :=
  k0_pay81 k0_pay40 (k0_pay70 x7) (k0_pay72 x8) (k0_pay74 x8) (k0_pay75 x8) (gM0 x14)
/-- The floor of the denominator. -/
def gE : FVec F S16x128 .f32 := k0_pay83 (gM x7 x8 x14) k0_pay82
/-- The weights of the rows in the state carried out. -/
def gS : FVec F S16x128 .f32 := k0_pay84 (gR x7 x8) (gX x7 x8 x14)
/-- The weight of the carried state in the state carried out. -/
def gI : FVec F S1x128 .f32 := k0_pay85 (gW x7 x8 x14)
/-- `gR` transposed. -/
def gT : FVec F S128x16 .f32 := k0_pay86 (gR x7 x8)
/-- The stabiliser carried out. -/
def gN : FVec F S1x128 .f32 := k0_pay87 (gM x7 x8 x14)

end Gates

/-- The two gates that need no stabiliser, under their own names. -/
theorem gate_names₀ (x7 x8 : Vec F S1x16x128 .f32) :
    k0_pay77 k0_pay40 (k0_pay70 x7) (k0_pay72 x8) (k0_pay74 x8) (k0_pay75 x8) = gR x7 x8 ∧
    k0_pay86 (gR x7 x8) = gT x7 x8 := ⟨rfl, rfl⟩

/-- The other gates of the body, under their own names. -/
theorem gate_names (x7 x8 : Vec F S1x16x128 .f32) (x14 : Vec F S1x1x128 .f32) :
    k0_pay78 k0_pay40 (k0_pay70 x7) (k0_pay72 x8) (k0_pay74 x8) (k0_pay75 x8) (k0_pay18 x14) = gX x7 x8 x14 ∧
    k0_pay79 k0_pay40 (k0_pay70 x7) (k0_pay72 x8) (k0_pay74 x8) (k0_pay75 x8) (k0_pay18 x14) = gM x7 x8 x14 ∧
    k0_pay80 k0_pay40 (k0_pay70 x7) (k0_pay72 x8) (k0_pay74 x8) (k0_pay75 x8) (k0_pay18 x14) = gNX x7 x8 x14 ∧
    k0_pay81 k0_pay40 (k0_pay70 x7) (k0_pay72 x8) (k0_pay74 x8) (k0_pay75 x8) (k0_pay18 x14) = gW x7 x8 x14 ∧
    k0_pay83 (gM x7 x8 x14) k0_pay82 = gE x7 x8 x14 ∧ k0_pay84 (gR x7 x8) (gX x7 x8 x14) = gS x7 x8 x14 ∧
    k0_pay85 (gW x7 x8 x14) = gI x7 x8 x14 ∧ k0_pay87 (gM x7 x8 x14) = gN x7 x8 x14 :=
  ⟨rfl, rfl, rfl, rfl, rfl, rfl, rfl, rfl⟩

/-! ## A pair of heads -/

/-- The pair of head `h`, and its place there. -/
def pr (h : Fin 8) : Fin 4 := ⟨h.val / 2, by omega⟩
def sd (h : Fin 8) : Fin 2 := ⟨h.val % 2, by omega⟩
/-- The two heads of pair `p`. -/
def ev (p : Fin 4) : Fin 8 := ⟨2 * p.val, by omega⟩
def od (p : Fin 4) : Fin 8 := ⟨2 * p.val + 1, by omega⟩

/-- The pair's two state matrices as the blocks of one, and its normaliser row. -/
def cIn (p : Fin 4) (x12 : Vec F S1x8x64x128 .f32) : FVec F S128x256 .f32 := k0_pay9 (ldM (ev p) x12) (ldM (od p) x12)
def nIn (p : Fin 4) (x13 : Vec F S1x4x128 .f32) : FVec F S1x128 .f32 := k0_pay10 (ldN p x13)

/-- Queries against normaliser and keys, and queries against the state. -/
def qkn (p : Fin 4) (x3 x4 : Vec F S1x16x512 .f32) (x13 : Vec F S1x4x128 .f32) : FVec F S32x144 .f32 :=
  k0_pay91 k0_pay41 (ldP p x3) (ldP p x4) (nIn p x13)
def qc (p : Fin 4) (x3 : Vec F S1x16x512 .f32) (x12 : Vec F S1x8x64x128 .f32) : FVec F S32x256 .f32 :=
  k0_pay92 k0_pay41 (ldP p x3) (cIn p x12)

section Head
variable (h : Fin 8) (x3 x4 : Vec F S1x16x512 .f32) (x5 : Vec F S1x16x1024 .bf16) (x6 : Vec F S1x16x1024 .f32)
  (x7 x8 : Vec F S1x16x128 .f32) (x10 : Vec F S1x1024 .f32) (x12 : Vec F S1x8x64x128 .f32) (x13 : Vec F S1x4x128 .f32)
  (x14 : Vec F S1x1x128 .f32)

/-- The weighted scores of head `h` within the chunk. -/
def scr : FVec F S16x16 .f32 :=
  mulf (extractStridedSlice S16x16 ![16 * (sd h).val, 128] (qkn (pr h) x3 x4 x13) (by revert h; decide))
    (exp (select k0_pay39
      (addf (broadcastTo S16x16 (col h (gNX x7 x8 x14)) broadcasts_S16x1_S16x16)
        (broadcastTo S16x16 (row h (gT x7 x8)) broadcasts_S1x16_S16x16))
      (broadcast S16x16 (Scalar.ofBits .f32 0xFF800000#32))))

/-- Head `h`'s readout before the norm. -/
def hdv : FVec F S16x128 .f32 :=
  divf
    (addf
      (mulf (broadcastTo S16x128 (col h (gW x7 x8 x14)) broadcasts_S16x1_S16x128)
        (extractStridedSlice S16x128 ![16 * (sd h).val, 128 * (sd h).val] (qc (pr h) x3 x12) (by revert h; decide)))
      (matmul dot_S16x16_S16x128_S16x128_1_0_0_1_n_n none
        (truncf .bf16 (scr h x3 x4 x7 x8 x13 x14) bitsLt_bf16_f32)
        (extractStridedSlice S16x128 ![0, 128 * (sd h).val] (k0_pay93 (ldV (pr h) x5)) (by revert h; decide))
        (constant S16x128 .f32 0x00000000#32)))
    (maximumf
      (absf (addf
        (mulf (broadcastTo S16x128 (col h (gW x7 x8 x14)) broadcasts_S16x1_S16x128)
          (extractStridedSlice S16x128 ![16 * (sd h).val, 0] (qkn (pr h) x3 x4 x13) (by revert h; decide)))
        (broadcastTo S16x128 (shapeCast S16x1 (multiReduction .add [1] S16 (scr h x3 x4 x7 x8 x13 x14) 0x00000000#32 reduces_S16x16_S16 (.inl rfl) rfl) shapeCasts_S16_S16x1) broadcasts_S16x1_S16x128)))
      (broadcastTo S16x128 (col h (gE x7 x8 x14)) broadcasts_S16x1_S16x128))

/-- Head `h`'s block of the mix. -/
def hdo : FVec F S1x16x128 .bf16 :=
  k0_pay186 (k0_pay98 (k0_pay95 (ldO h x6))
    (mulf (hdv h x3 x4 x5 x7 x8 x12 x13 x14)
      (broadcastTo S16x128 (rsqrt (addf
        (divf (shapeCast S16x1 (multiReduction .add [1] S16 (mulf (hdv h x3 x4 x5 x7 x8 x12 x13 x14) (hdv h x3 x4 x5 x7 x8 x12 x13 x14)) 0x00000000#32 reduces_S16x128_S16 (.inl rfl) rfl) shapeCasts_S16_S16x1)
          (broadcast S16x1 (Scalar.ofBits .f32 0x43000000#32)))
        (broadcast S16x1 (Scalar.ofBits .f32 0x358637BD#32)))) broadcasts_S16x1_S16x128))
    (k0_pay97 (ldG h x10)))

end Head

/-! ## The state carried out -/

section State
variable (p : Fin 4) (x4 : Vec F S1x16x512 .f32) (x5 : Vec F S1x16x1024 .bf16) (x7 x8 : Vec F S1x16x128 .f32)
  (x12 : Vec F S1x8x64x128 .f32) (x13 : Vec F S1x4x128 .f32) (x14 : Vec F S1x1x128 .f32)

/-- The rows' weights, the pair's two columns side by side. -/
def wgt : FVec F S16x128 .f32 :=
  select k0_pay41
    (broadcastTo S16x128 (shapeCast S16x1 (col (ev p) (gS x7 x8 x14)) shapeCasts_S16x1_S16x1) broadcasts_S16x1_S16x128)
    (broadcastTo S16x128 (shapeCast S16x1 (col (od p) (gS x7 x8 x14)) shapeCasts_S16x1_S16x1) broadcasts_S16x1_S16x128)

/-- The pair's state matrices after the chunk, as blocks. -/
def cOut : FVec F S128x256 .f32 :=
  addf
    (mulf
      (select (cmpi .slt (iota .tc S128x256 32 [0] iota_S128x256_d0_w32) (broadcast S128x256 64#32))
        (broadcastTo S128x256 (shapeCast S1x1 (ent (ev p) (gI x7 x8 x14)) shapeCasts_S1x1_S1x1) broadcasts_S1x1_S128x256)
        (broadcastTo S128x256 (shapeCast S1x1 (ent (od p) (gI x7 x8 x14)) shapeCasts_S1x1_S1x1) broadcasts_S1x1_S128x256))
      (cIn p x12))
    (matmul dot_S128x128_S128x256_S128x256_1_0_0_1_n_n none
      (truncf .bf16 (transpose S128x128 [1, 0]
        (concatenate S128x128 0 [⟨S16x128, mulf (k0_pay88 (ldP p x4)) (wgt p x7 x8 x14)⟩,
          ⟨S112x128, broadcast S112x128 (Scalar.ofBits .f32 0x00000000#32)⟩] concatenates_S16x128_S112x128_S128x128_d0)
        transposes_S128x128_p1_0_S128x128) bitsLt_bf16_f32)
      (concatenate S128x256 0 [⟨S16x256, k0_pay93 (ldV p x5)⟩,
          ⟨S112x256, broadcast S112x256 (Scalar.ofBits .bf16 0x0000#16)⟩] concatenates_S16x256_S112x256_S128x256_d0)
      (constant S128x256 .f32 0x00000000#32))

/-- The pair's normaliser row after the chunk. -/
def nOut : FVec F S1x128 .f32 :=
  addf
    (mulf
      (select (cmpi .slt (iota .tc S1x128 32 [1] iota_S1x128_d1_w32) (broadcast S1x128 64#32))
        (broadcastTo S1x128 (shapeCast S1x1 (ent (ev p) (gI x7 x8 x14)) shapeCasts_S1x1_S1x1) broadcasts_S1x1_S1x128)
        (broadcastTo S1x128 (shapeCast S1x1 (ent (od p) (gI x7 x8 x14)) shapeCasts_S1x1_S1x1) broadcasts_S1x1_S1x128))
      (nIn p x13))
    (shapeCast S1x128 (multiReduction .add [0] S128
      (mulf (extf .f32 (k0_pay89 (ldP p x4)) bitsLt_bf16_f32)
        (extf .f32 (truncf .bf16 (wgt p x7 x8 x14) bitsLt_bf16_f32) bitsLt_bf16_f32))
      0x00000000#32 reduces_S16x128_S128 (.inl rfl) rfl) shapeCasts_S128_S1x128)

end State

/-! ## The convolution -/

section Conv
variable (g : Fin 4) (x0 x1 x2 : Vec F S1x16x1024 .f32) (x9 : Vec F S3x1024 .f32) (x11 : Vec F S1x2x1024 .f32)

/-- The gated rows of a group, and the eight carried ones (the last two hold the history). -/
def cz : FVec F S16x256 .f32 := k0_pay42 (ldW g x1) (ldW g x0)
def car : Vec F S8x256 .f32 := fun j =>
  View.canon (Val := Elt F) (s := S8x256) (e := .f32)
    [⟨Rect.unit ![6, 0] ![2, 256] (by decide), k0_pay20 (ldC g x11)⟩, ⟨Rect.unit ![0, 0] ![8, 256] (by decide), k0_pay19⟩]
    ((Rect.unit ![0, 0] ![8, 256] (by decide) : Rect S8x256).idx j)
theorem car_eq : car g x11 = fun j =>
  View.canon (Val := Elt F) (s := S8x256) (e := .f32)
    [⟨Rect.unit ![6, 0] ![2, 256] (by decide), shapeCast S2x256 (ldC g x11) shapeCasts_S1x2x256_S2x256⟩,
      ⟨Rect.unit ![0, 0] ![8, 256] (by decide), broadcast S8x256 (FloatOps.ofBits .f32 0#32)⟩]
    ((Rect.unit ![0, 0] ![8, 256] (by decide) : Rect S8x256).idx j) := by
  unfold car k0_pay20 k0_pay19
  simp only [shapeCast_self]

/-- The group's block of the mix. -/
def cvo : FVec F S1x16x256 .bf16 :=
  k0_pay177 (k0_pay49 (cz g x0 x1) (k0_pay43 (car g x11)) (k0_pay44 (car g x11)) (k0_pay45 (ldW g x1) (ldW g x0) (car g x11))
    k0_pay46 (k0_pay47 (ldW g x1) (ldW g x0)) k0_pay48 (ldT g 0 x9) (ldT g 1 x9) (ldT g 2 x9) (ldW g x2))

/-- The two rows carried out. -/
def czo : FVec F S1x2x256 .f32 := k0_pay23 (k0_pay178 (k0_pay50 (cz g x0 x1)))

end Conv

end Cert.Mixer

end
-- ==== Proof.OutState.lean ====
/- The state blocks a grid point leaves, piece by piece. -/
module

public import proofs.«01_k».proof.Proof.Vocab

@[expose] public section

set_option maxRecDepth 16384
set_option maxHeartbeats 1000000

noncomputable section

namespace Cert.Mixer

open Cert.KernelIdeal Cert.KernelIdeal.Gen Idealize.ShloMosaic Idealize.ShloMosaic.Tactic

variable {F : FTy → Type} [FloatOps F] (m : (ℓ : Loc nD τ sig) → Buf (Elt F) ℓ)

theorem out16 (c : Dev nD) (t : Fin cfg0.N) : (outsAt0 m c t).2.1 = View.canon [
    ⟨Rect.unit ![0, 0, 768] ![1, 2, 256] (by decide), czo 3 (iblk m c 0 t) (iblk m c 1 t)⟩,
    ⟨Rect.unit ![0, 0, 512] ![1, 2, 256] (by decide), czo 2 (iblk m c 0 t) (iblk m c 1 t)⟩,
    ⟨Rect.unit ![0, 0, 256] ![1, 2, 256] (by decide), czo 1 (iblk m c 0 t) (iblk m c 1 t)⟩,
    ⟨Rect.unit ![0, 0, 0] ![1, 2, 256] (by decide), czo 0 (iblk m c 0 t) (iblk m c 1 t)⟩] := by
  unfold outsAt0
  frame_out
  simp only [View.readCov_cons_toLoadRect]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, hdo, hdv, scr, qkn, qc, cIn, nIn, wgt, cOut, nOut, cz, cvo, czo, car_eq, col, row, ent, pr, sd, ev, od, ldW, ldC, ldT, ldP, ldV, ldO, ldG, ldM, ldN, shapeCast_self, id_eq]
  rfl

theorem out17 (c : Dev nD) (t : Fin cfg0.N) : (outsAt0 m c t).2.2.1 = View.canon [
    ⟨Rect.unit ![0, 7, 0, 0] ![1, 1, 64, 128] (by decide), k0_pay5 (cOut 3 (iblk m c 4 t) (iblk m c 5 t) (iblk m c 7 t) (iblk m c 8 t) (iblk m c 12 t) (iblk m c 14 t))⟩,
    ⟨Rect.unit ![0, 6, 0, 0] ![1, 1, 64, 128] (by decide), k0_pay4 (cOut 3 (iblk m c 4 t) (iblk m c 5 t) (iblk m c 7 t) (iblk m c 8 t) (iblk m c 12 t) (iblk m c 14 t))⟩,
    ⟨Rect.unit ![0, 5, 0, 0] ![1, 1, 64, 128] (by decide), k0_pay5 (cOut 2 (iblk m c 4 t) (iblk m c 5 t) (iblk m c 7 t) (iblk m c 8 t) (iblk m c 12 t) (iblk m c 14 t))⟩,
    ⟨Rect.unit ![0, 4, 0, 0] ![1, 1, 64, 128] (by decide), k0_pay4 (cOut 2 (iblk m c 4 t) (iblk m c 5 t) (iblk m c 7 t) (iblk m c 8 t) (iblk m c 12 t) (iblk m c 14 t))⟩,
    ⟨Rect.unit ![0, 3, 0, 0] ![1, 1, 64, 128] (by decide), k0_pay5 (cOut 1 (iblk m c 4 t) (iblk m c 5 t) (iblk m c 7 t) (iblk m c 8 t) (iblk m c 12 t) (iblk m c 14 t))⟩,
    ⟨Rect.unit ![0, 2, 0, 0] ![1, 1, 64, 128] (by decide), k0_pay4 (cOut 1 (iblk m c 4 t) (iblk m c 5 t) (iblk m c 7 t) (iblk m c 8 t) (iblk m c 12 t) (iblk m c 14 t))⟩,
    ⟨Rect.unit ![0, 1, 0, 0] ![1, 1, 64, 128] (by decide), k0_pay5 (cOut 0 (iblk m c 4 t) (iblk m c 5 t) (iblk m c 7 t) (iblk m c 8 t) (iblk m c 12 t) (iblk m c 14 t))⟩,
    ⟨Rect.unit ![0, 0, 0, 0] ![1, 1, 64, 128] (by decide), k0_pay4 (cOut 0 (iblk m c 4 t) (iblk m c 5 t) (iblk m c 7 t) (iblk m c 8 t) (iblk m c 12 t) (iblk m c 14 t))⟩] := by
  unfold outsAt0
  frame_out
  rw [(hs0_12 t).read_unread]
  generalize iblk m c 4 t = x4
  generalize iblk m c 5 t = x5
  generalize iblk m c 7 t = x7
  generalize iblk m c 8 t = x8
  generalize iblk m c 12 t = x12
  generalize iblk m c 14 t = x14
  simp only [gate_names₀, gate_names]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, hdo, hdv, scr, qkn, qc, cIn, nIn, wgt, cOut, nOut, cz, cvo, czo, car_eq, col, row, ent, pr, sd, ev, od, ldW, ldC, ldT, ldP, ldV, ldO, ldG, ldM, ldN, shapeCast_self, id_eq]
  rfl

theorem out18 (c : Dev nD) (t : Fin cfg0.N) : (outsAt0 m c t).2.2.2.1 = View.canon [
    ⟨Rect.unit ![0, 3, 0] ![1, 1, 128] (by decide), k0_pay3 (nOut 3 (iblk m c 4 t) (iblk m c 7 t) (iblk m c 8 t) (iblk m c 13 t) (iblk m c 14 t))⟩,
    ⟨Rect.unit ![0, 2, 0] ![1, 1, 128] (by decide), k0_pay3 (nOut 2 (iblk m c 4 t) (iblk m c 7 t) (iblk m c 8 t) (iblk m c 13 t) (iblk m c 14 t))⟩,
    ⟨Rect.unit ![0, 1, 0] ![1, 1, 128] (by decide), k0_pay3 (nOut 1 (iblk m c 4 t) (iblk m c 7 t) (iblk m c 8 t) (iblk m c 13 t) (iblk m c 14 t))⟩,
    ⟨Rect.unit ![0, 0, 0] ![1, 1, 128] (by decide), k0_pay3 (nOut 0 (iblk m c 4 t) (iblk m c 7 t) (iblk m c 8 t) (iblk m c 13 t) (iblk m c 14 t))⟩] := by
  unfold outsAt0
  frame_out
  simp only [gate_names₀, gate_names]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, hdo, hdv, scr, qkn, qc, cIn, nIn, wgt, cOut, nOut, cz, cvo, czo, car_eq, col, row, ent, pr, sd, ev, od, ldW, ldC, ldT, ldP, ldV, ldO, ldG, ldM, ldN, shapeCast_self, id_eq]
  rfl

theorem out19 (c : Dev nD) (t : Fin cfg0.N) : (outsAt0 m c t).2.2.2.2 = View.canon [
    ⟨Rect.unit ![0, 0, 0] ![1, 1, 128] (by decide), k0_pay7 (gN (iblk m c 7 t) (iblk m c 8 t) (iblk m c 14 t))⟩] := by
  unfold outsAt0
  frame_out
  simp only [gate_names₀, gate_names]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, hdo, hdv, scr, qkn, qc, cIn, nIn, wgt, cOut, nOut, cz, cvo, czo, car_eq, col, row, ent, pr, sd, ev, od, ldW, ldC, ldT, ldP, ldV, ldO, ldG, ldM, ldN, shapeCast_self, id_eq]

end Cert.Mixer

end
-- ==== Proof.OutMix.lean ====
/- The mix block a grid point leaves, piece by piece. -/
module

public import proofs.«01_k».proof.Proof.Vocab

@[expose] public section

set_option maxRecDepth 16384
set_option maxHeartbeats 1000000

noncomputable section

namespace Cert.Mixer

open Cert.KernelIdeal Cert.KernelIdeal.Gen Idealize.ShloMosaic Idealize.ShloMosaic.Tactic

variable {F : FTy → Type} [FloatOps F] (m : (ℓ : Loc nD τ sig) → Buf (Elt F) ℓ)

theorem out15 (c : Dev nD) (t : Fin cfg0.N) : (outsAt0 m c t).1 = View.canon [
    ⟨Rect.unit ![0, 0, 1920] ![1, 16, 128] (by decide), hdo 7 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 1792] ![1, 16, 128] (by decide), hdo 6 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 1664] ![1, 16, 128] (by decide), hdo 5 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 1536] ![1, 16, 128] (by decide), hdo 4 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 1408] ![1, 16, 128] (by decide), hdo 3 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 1280] ![1, 16, 128] (by decide), hdo 2 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 1152] ![1, 16, 128] (by decide), hdo 1 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 1024] ![1, 16, 128] (by decide), hdo 0 (iblk m c 3 t) (iblk m c 4 t) (iblk m c 5 t) (iblk m c 6 t) (iblk m c 7 t) (iblk m c 8 t) (iblk m c 10 t) (iblk m c 12 t) (iblk m c 13 t) (iblk m c 14 t)⟩,
    ⟨Rect.unit ![0, 0, 768] ![1, 16, 256] (by decide), cvo 3 (iblk m c 0 t) (iblk m c 1 t) (iblk m c 2 t) (iblk m c 9 t) (iblk m c 11 t)⟩,
    ⟨Rect.unit ![0, 0, 512] ![1, 16, 256] (by decide), cvo 2 (iblk m c 0 t) (iblk m c 1 t) (iblk m c 2 t) (iblk m c 9 t) (iblk m c 11 t)⟩,
    ⟨Rect.unit ![0, 0, 256] ![1, 16, 256] (by decide), cvo 1 (iblk m c 0 t) (iblk m c 1 t) (iblk m c 2 t) (iblk m c 9 t) (iblk m c 11 t)⟩,
    ⟨Rect.unit ![0, 0, 0] ![1, 16, 256] (by decide), cvo 0 (iblk m c 0 t) (iblk m c 1 t) (iblk m c 2 t) (iblk m c 9 t) (iblk m c 11 t)⟩] := by
  unfold outsAt0
  frame_out
  rw [(hs0_12 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  simp only [View.readCov_eq_canon']
  simp only [gate_names₀, gate_names]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, hdo, hdv, scr, qkn, qc, cIn, nIn, wgt, cOut, nOut, cz, cvo, czo, car_eq, col, row, ent, pr, sd, ev, od, ldW, ldC, ldT, ldP, ldV, ldO, ldG, ldM, ldN, shapeCast_self, id_eq]
  rfl

end Cert.Mixer

end
-- ==== Proof.Blocks.lean ====
/- The blocks a grid point loads, read at an index as the arguments. -/
module

public import proofs.«01_k».proof.Proof.Vocab
public import Idealize.ShloMosaic.Lib.Pipeline.ValueKit
public import Idealize.ShloMosaic.Lib.Claim

@[expose] public section

set_option maxRecDepth 16384

noncomputable section

namespace Cert.Mixer

open Cert.KernelIdeal Cert.KernelIdeal.Gen Idealize.ShloMosaic Idealize.ShloMosaic.Tactic Idealize.ShloMosaic.TcCoe

variable (m : (ℓ : Loc nD τ sig) → Buf (Elt Ideal) ℓ) (c : Dev nD) (t : Fin cfg0.N)

/-- The batch row of a grid point. -/
def bt (t : Fin cfg0.N) : Fin 16 := ⟨t.val, t.isLt⟩
theorem bt_val (t : Fin cfg0.N) : (bt t).val = t.val := rfl

theorem at0 : ∀ t : Fin cfg0.N, win0_0.index t = ![t.val, 0, 0] := (by decide +kernel : ∀ t : Fin grid0.N, _)
theorem at1 : ∀ t : Fin cfg0.N, win0_1.index t = ![t.val, 0, 1] := (by decide +kernel : ∀ t : Fin grid0.N, _)
theorem at2 : ∀ t : Fin cfg0.N, win0_2.index t = ![t.val, 0, 2] := (by decide +kernel : ∀ t : Fin grid0.N, _)
theorem at3 : ∀ t : Fin cfg0.N, win0_3.index t = ![t.val, 0, 8] := (by decide +kernel : ∀ t : Fin grid0.N, _)
theorem at4 : ∀ t : Fin cfg0.N, win0_4.index t = ![t.val, 0, 9] := (by decide +kernel : ∀ t : Fin grid0.N, _)
theorem at5 : ∀ t : Fin cfg0.N, win0_5.index t = ![t.val, 0, 0] := (by decide +kernel : ∀ t : Fin grid0.N, _)
theorem at6 : ∀ t : Fin cfg0.N, win0_6.index t = ![t.val, 0, 3] := (by decide +kernel : ∀ t : Fin grid0.N, _)
theorem at7 : ∀ t : Fin cfg0.N, win0_7.index t = ![t.val, 0, 0] := (by decide +kernel : ∀ t : Fin grid0.N, _)
theorem at8 : ∀ t : Fin cfg0.N, win0_8.index t = ![t.val, 0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![t.val, 0, 0] := (by decide +kernel : ∀ t : Fin grid0.N, _)
theorem at12 : ∀ t : Fin cfg0.N, win0_12.index t = ![t.val, 0, 0, 0] := (by decide +kernel : ∀ t : Fin grid0.N, _)
theorem at13 : ∀ t : Fin cfg0.N, win0_13.index t = ![t.val, 0, 0] := (by decide +kernel : ∀ t : Fin grid0.N, _)
theorem at14 : ∀ t : Fin cfg0.N, win0_14.index t = ![t.val, 0, 0] := (by decide +kernel : ∀ t : Fin grid0.N, _)

/-! ## The arrays the host prepares -/

theorem V_v0 : V m c main_v0 = concatenate S16x16x5120 2 [⟨S16x16x1024, (m ((c : Thread nD τ).loc main_arg0))⟩, ⟨S16x16x1024, (m ((c : Thread nD τ).loc main_arg1))⟩, ⟨S16x16x1024, (m ((c : Thread nD τ).loc main_arg2))⟩, ⟨S16x16x1024, (m ((c : Thread nD τ).loc main_arg6))⟩, ⟨S16x16x512, (m ((c : Thread nD τ).loc main_arg3))⟩, ⟨S16x16x512, (m ((c : Thread nD τ).loc main_arg4))⟩]
    concatenates_S16x16x1024_S16x16x1024_S16x16x1024_S16x16x1024_S16x16x512_S16x16x512_S16x16x5120_d2 := by
  unfold V
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.toBuf, StableHlo.TRef.ofBuf, cast_eq]
  after_results_simp <;> rfl
theorem V_v1 : V m c main_v1 = (truncf .bf16 (m ((c : Thread nD τ).loc main_arg5)) bitsLt_bf16_f32 : FVec Ideal S16x16x1024 .bf16) := by
  unfold V
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.toBuf, StableHlo.TRef.ofBuf, cast_eq]
  after_results_simp <;> rfl
theorem V_v2 : V m c main_v2 = shapeCast S16x4x128 (m ((c : Thread nD τ).loc main_arg13)) shapeCasts_S16x8x64_S16x4x128 := by
  unfold V
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.toBuf, StableHlo.TRef.ofBuf, cast_eq]
  after_results_simp <;> rfl
theorem V_v4 : V m c main_v4 = shapeCast S16x1x128 (pad S16x128 ![0, 0] ![0, 120] ![0, 0] (m ((c : Thread nD τ).loc main_arg14)) (sitofp .f32 (constantI S_ 32 0#32) : FVec Ideal S_ .f32) pads_S16x8_S16x128_000_01200 h_S_) shapeCasts_S16x128_S16x1x128 := by
  unfold V
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.toBuf, StableHlo.TRef.ofBuf, cast_eq]
  after_results_simp <;> rfl
theorem V_v5 : V m c main_v5 = pad S16x16x128 ![0, 0, 0] ![0, 0, 120] ![0, 0, 0] (m ((c : Thread nD τ).loc main_arg7)) (sitofp .f32 (constantI S_ 32 0#32) : FVec Ideal S_ .f32) pads_S16x16x8_S16x16x128_000_000_01200 h_S_ := by
  unfold V
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.toBuf, StableHlo.TRef.ofBuf, cast_eq]
  after_results_simp <;> rfl
theorem V_v6 : V m c main_v6 = pad S16x16x128 ![0, 0, 0] ![0, 0, 120] ![0, 0, 0] (m ((c : Thread nD τ).loc main_arg8)) (sitofp .f32 (constantI S_ 32 0#32) : FVec Ideal S_ .f32) pads_S16x16x8_S16x16x128_000_000_01200 h_S_ := by
  unfold V
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.toBuf, StableHlo.TRef.ofBuf, cast_eq]
  after_results_simp <;> rfl
theorem V_v7 : V m c main_v7 = shapeCast S1x1024 (m ((c : Thread nD τ).loc main_arg10)) shapeCasts_S1024_S1x1024 := by
  unfold V
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.toBuf, StableHlo.TRef.ofBuf, cast_eq]
  after_results_simp <;> rfl

/-! ## Padding and a pair of heads' rows at an index -/

theorem pad3_lo (x : FVec Ideal S16x16x8 .f32) (b s : Fin 16) (h : Fin 8) :
    pad S16x16x128 ![0, 0, 0] ![0, 0, 120] ![0, 0, 0] x (sitofp .f32 (constantI S_ 32 0#32) : FVec Ideal S_ .f32) pads_S16x16x8_S16x16x128_000_000_01200 h_S_ (ix3 b s ⟨h.val, by omega⟩) = x (ix3 b s h) := by
  pointwise []

theorem pad3_hi (x : FVec Ideal S16x16x8 .f32) (b s : Fin 16) (j : Fin 128) (hj : ¬ j.val < 8) :
    @Eq EReal (pad S16x16x128 ![0, 0, 0] ![0, 0, 120] ![0, 0, 0] x (sitofp .f32 (constantI S_ 32 0#32) : FVec Ideal S_ .f32) pads_S16x16x8_S16x16x128_000_000_01200 h_S_ (ix3 b s j)) 0 := by
  pointwise []
  rw [dif_neg hj]
  show (((0#32 : BitVec 32).toInt : ℝ) : EReal) = 0
  simp

theorem pad2_lo (x : FVec Ideal S16x8 .f32) (b : Fin 16) (h : Fin 8) :
    shapeCast S16x1x128 (pad S16x128 ![0, 0] ![0, 120] ![0, 0] x (sitofp .f32 (constantI S_ 32 0#32) : FVec Ideal S_ .f32) pads_S16x8_S16x128_000_01200 h_S_) shapeCasts_S16x128_S16x1x128
      (ix3 b 0 ⟨h.val, by omega⟩) = x (ix2 b h) := by
  pointwise []

theorem pad2_hi (x : FVec Ideal S16x8 .f32) (b : Fin 16) (j : Fin 128) (hj : ¬ j.val < 8) :
    @Eq EReal (shapeCast S16x1x128 (pad S16x128 ![0, 0] ![0, 120] ![0, 0] x (sitofp .f32 (constantI S_ 32 0#32) : FVec Ideal S_ .f32) pads_S16x8_S16x128_000_01200 h_S_) shapeCasts_S16x128_S16x1x128
      (ix3 b 0 j)) 0 := by
  pointwise []
  rw [dif_neg hj]
  show (((0#32 : BitVec 32).toInt : ℝ) : EReal) = 0
  simp

theorem pair_row (x : FVec Ideal S16x8x64 .f32) (b : Fin 16) (p : Fin 4) (a : Fin 2) (j : Fin 64) :
    shapeCast S16x4x128 x shapeCasts_S16x8x64_S16x4x128 (ix3 b p ⟨64 * a.val + j.val, by omega⟩) = x (ix3 b ⟨2 * p.val + a.val, by omega⟩ j) := by
  pointwise []
  have e : p.val * 2 + (64 * a.val + j.val) / 64 = 2 * p.val + a.val := by omega
  simp only [e]

/-! ## The blocks at an index -/

theorem blk0 (s : Fin 16) (k : Fin 1024) : (iblk m c 0 t : Vec Ideal S1x16x1024 .f32) (ix3 0 s k) = (m ((c : Thread nD τ).loc main_arg0)) (ix3 (bt t) s k) := by
  have e : (win0_0.blk t).view.emb (ix3 0 s k) = ix3 (bt t) s ⟨0 + k.val, by omega⟩ := by blk_ext [at0, bt_val]
  show V m c main_v0 ((win0_0.blk t).view.emb (ix3 0 s k)) = _
  rw [e, V_v0]
  pointwise []

theorem blk1 (s : Fin 16) (k : Fin 1024) : (iblk m c 1 t : Vec Ideal S1x16x1024 .f32) (ix3 0 s k) = (m ((c : Thread nD τ).loc main_arg1)) (ix3 (bt t) s k) := by
  have e : (win0_1.blk t).view.emb (ix3 0 s k) = ix3 (bt t) s ⟨1024 + k.val, by omega⟩ := by blk_ext [at1, bt_val]
  show V m c main_v0 ((win0_1.blk t).view.emb (ix3 0 s k)) = _
  rw [e, V_v0]
  pointwise []

theorem blk2 (s : Fin 16) (k : Fin 1024) : (iblk m c 2 t : Vec Ideal S1x16x1024 .f32) (ix3 0 s k) = (m ((c : Thread nD τ).loc main_arg2)) (ix3 (bt t) s k) := by
  have e : (win0_2.blk t).view.emb (ix3 0 s k) = ix3 (bt t) s ⟨2048 + k.val, by omega⟩ := by blk_ext [at2, bt_val]
  show V m c main_v0 ((win0_2.blk t).view.emb (ix3 0 s k)) = _
  rw [e, V_v0]
  pointwise []
  rw [dif_neg (by omega), dif_neg (by omega), dif_pos (by omega)]
  simp only [show 2048 + k.val - 1024 - 1024 = k.val by omega, Fin.eta]

theorem blk6 (s : Fin 16) (k : Fin 1024) : (iblk m c 6 t : Vec Ideal S1x16x1024 .f32) (ix3 0 s k) = (m ((c : Thread nD τ).loc main_arg6)) (ix3 (bt t) s k) := by
  have e : (win0_6.blk t).view.emb (ix3 0 s k) = ix3 (bt t) s ⟨3072 + k.val, by omega⟩ := by blk_ext [at6, bt_val]
  show V m c main_v0 ((win0_6.blk t).view.emb (ix3 0 s k)) = _
  rw [e, V_v0]
  pointwise []
  rw [dif_neg (by omega), dif_neg (by omega), dif_neg (by omega), dif_pos (by omega)]
  simp only [show 3072 + k.val - 1024 - 1024 - 1024 = k.val by omega, Fin.eta]

theorem blk5 (s : Fin 16) (k : Fin 1024) : (iblk m c 5 t : Vec Ideal S1x16x1024 .bf16) (ix3 0 s k) = (m ((c : Thread nD τ).loc main_arg5)) (ix3 (bt t) s k) := by
  have e : (win0_5.blk t).view.emb (ix3 0 s k) = ix3 (bt t) s ⟨0 + k.val, by omega⟩ := by blk_ext [at5, bt_val]
  show V m c main_v1 ((win0_5.blk t).view.emb (ix3 0 s k)) = _
  rw [e, V_v1]
  pointwise []

theorem blk3 (s : Fin 16) (k : Fin 512) : (iblk m c 3 t : Vec Ideal S1x16x512 .f32) (ix3 0 s k) = (m ((c : Thread nD τ).loc main_arg3)) (ix3 (bt t) s k) := by
  have e : (win0_3.blk t).view.emb (ix3 0 s k) = ix3 (bt t) s ⟨4096 + k.val, by omega⟩ := by blk_ext [at3, bt_val]
  show V m c main_v0 ((win0_3.blk t).view.emb (ix3 0 s k)) = _
  rw [e, V_v0]
  pointwise []
  rw [dif_neg (by omega), dif_neg (by omega), dif_neg (by omega), dif_neg (by omega), dif_pos (by omega)]
  simp only [show 4096 + k.val - 1024 - 1024 - 1024 - 1024 = k.val by omega, Fin.eta]

theorem blk4 (s : Fin 16) (k : Fin 512) : (iblk m c 4 t : Vec Ideal S1x16x512 .f32) (ix3 0 s k) = (m ((c : Thread nD τ).loc main_arg4)) (ix3 (bt t) s k) := by
  have e : (win0_4.blk t).view.emb (ix3 0 s k) = ix3 (bt t) s ⟨4608 + k.val, by omega⟩ := by blk_ext [at4, bt_val]
  show V m c main_v0 ((win0_4.blk t).view.emb (ix3 0 s k)) = _
  rw [e, V_v0]
  pointwise []
  rw [dif_neg (by omega), dif_neg (by omega), dif_neg (by omega), dif_neg (by omega), dif_neg (by omega)]
  simp only [show 4608 + k.val - 1024 - 1024 - 1024 - 1024 - 512 = k.val by omega, Fin.eta]

theorem blk7 (s : Fin 16) (h : Fin 8) : (iblk m c 7 t : Vec Ideal S1x16x128 .f32) (ix3 0 s ⟨h.val, by omega⟩) = (m ((c : Thread nD τ).loc main_arg7)) (ix3 (bt t) s h) := by
  have e : (win0_7.blk t).view.emb (ix3 0 s ⟨h.val, by omega⟩) = ix3 (bt t) s ⟨h.val, by omega⟩ := by blk_ext [at7, bt_val]
  show V m c main_v5 ((win0_7.blk t).view.emb (ix3 0 s ⟨h.val, by omega⟩)) = _
  rw [e, V_v5]
  exact pad3_lo _ _ _ _

theorem blk7_pad (s : Fin 16) (j : Fin 128) (hj : ¬ j.val < 8) : @Eq EReal ((iblk m c 7 t : Vec Ideal S1x16x128 .f32) (ix3 0 s j)) 0 := by
  have e : (win0_7.blk t).view.emb (ix3 0 s j) = ix3 (bt t) s j := by blk_ext [at7, bt_val]
  show V m c main_v5 ((win0_7.blk t).view.emb (ix3 0 s j)) = _
  rw [e, V_v5]
  exact pad3_hi _ _ _ _ hj

theorem blk8 (s : Fin 16) (h : Fin 8) : (iblk m c 8 t : Vec Ideal S1x16x128 .f32) (ix3 0 s ⟨h.val, by omega⟩) = (m ((c : Thread nD τ).loc main_arg8)) (ix3 (bt t) s h) := by
  have e : (win0_8.blk t).view.emb (ix3 0 s ⟨h.val, by omega⟩) = ix3 (bt t) s ⟨h.val, by omega⟩ := by blk_ext [at8, bt_val]
  show V m c main_v6 ((win0_8.blk t).view.emb (ix3 0 s ⟨h.val, by omega⟩)) = _
  rw [e, V_v6]
  exact pad3_lo _ _ _ _

theorem blk8_pad (s : Fin 16) (j : Fin 128) (hj : ¬ j.val < 8) : @Eq EReal ((iblk m c 8 t : Vec Ideal S1x16x128 .f32) (ix3 0 s j)) 0 := by
  have e : (win0_8.blk t).view.emb (ix3 0 s j) = ix3 (bt t) s j := by blk_ext [at8, bt_val]
  show V m c main_v6 ((win0_8.blk t).view.emb (ix3 0 s j)) = _
  rw [e, V_v6]
  exact pad3_hi _ _ _ _ hj

theorem blk9 (s : Fin 3) (k : Fin 1024) : (iblk m c 9 t : Vec Ideal S3x1024 .f32) (ix2 s k) = (m ((c : Thread nD τ).loc main_arg9)) (ix2 s k) := by
  have e : (win0_9.blk t).view.emb (ix2 s k) = ix2 s k := by blk_ext [at9, bt_val]
  show V m c main_arg9 ((win0_9.blk t).view.emb (ix2 s k)) = _
  rw [e, V_main_arg9]

theorem blk10 (k : Fin 1024) : (iblk m c 10 t : Vec Ideal S1x1024 .f32) (ix2 0 k) = (m ((c : Thread nD τ).loc main_arg10)) (ix1 k) := by
  have e : (win0_10.blk t).view.emb (ix2 0 k) = ix2 0 k := by blk_ext [at10, bt_val]
  show V m c main_v7 ((win0_10.blk t).view.emb (ix2 0 k)) = _
  rw [e, V_v7]
  pointwise []

theorem blk11 (s : Fin 2) (k : Fin 1024) : (iblk m c 11 t : Vec Ideal S1x2x1024 .f32) (ix3 0 s k) = (m ((c : Thread nD τ).loc main_arg11)) (ix3 (bt t) s k) := by
  have e : (win0_11.blk t).view.emb (ix3 0 s k) = ix3 (bt t) s k := by blk_ext [at11, bt_val]
  show V m c main_arg11 ((win0_11.blk t).view.emb (ix3 0 s k)) = _
  rw [e, V_main_arg11]

theorem blk12 (h : Fin 8) (j : Fin 64) (d : Fin 128) : (iblk m c 12 t : Vec Ideal S1x8x64x128 .f32) (ix4 0 h j d) = (m ((c : Thread nD τ).loc main_arg12)) (ix4 (bt t) h j d) := by
  have e : (win0_12.blk t).view.emb (ix4 0 h j d) = ix4 (bt t) h j d := by blk_ext [at12, bt_val]
  show V m c main_arg12 ((win0_12.blk t).view.emb (ix4 0 h j d)) = _
  rw [e, V_main_arg12]

theorem blk13 (p : Fin 4) (a : Fin 2) (j : Fin 64) : (iblk m c 13 t : Vec Ideal S1x4x128 .f32) (ix3 0 p ⟨64 * a.val + j.val, by omega⟩) = (m ((c : Thread nD τ).loc main_arg13)) (ix3 (bt t) ⟨2 * p.val + a.val, by omega⟩ j) := by
  have e : (win0_13.blk t).view.emb (ix3 0 p ⟨64 * a.val + j.val, by omega⟩) = ix3 (bt t) p ⟨64 * a.val + j.val, by omega⟩ := by blk_ext [at13, bt_val]
  show V m c main_v2 ((win0_13.blk t).view.emb (ix3 0 p ⟨64 * a.val + j.val, by omega⟩)) = _
  rw [e, V_v2]
  exact pair_row _ _ _ _ _

theorem blk14 (h : Fin 8) : (iblk m c 14 t : Vec Ideal S1x1x128 .f32) (ix3 0 0 ⟨h.val, by omega⟩) = (m ((c : Thread nD τ).loc main_arg14)) (ix2 (bt t) h) := by
  have e : (win0_14.blk t).view.emb (ix3 0 0 ⟨h.val, by omega⟩) = ix3 (bt t) 0 ⟨h.val, by omega⟩ := by blk_ext [at14, bt_val]
  show V m c main_v4 ((win0_14.blk t).view.emb (ix3 0 0 ⟨h.val, by omega⟩)) = _
  rw [e, V_v4]
  exact pad2_lo _ _ _

theorem blk14_pad (j : Fin 128) (hj : ¬ j.val < 8) : @Eq EReal ((iblk m c 14 t : Vec Ideal S1x1x128 .f32) (ix3 0 0 j)) 0 := by
  have e : (win0_14.blk t).view.emb (ix3 0 0 j) = ix3 (bt t) 0 j := by blk_ext [at14, bt_val]
  show V m c main_v4 ((win0_14.blk t).view.emb (ix3 0 0 j)) = _
  rw [e, V_v4]
  exact pad2_hi _ _ _ hj

end Cert.Mixer

end
-- ==== Proof.MixMath.lean ====
/- The chunk's mathematics over extended reals, for one batch row and one head: what the block computes, as
   functions of the head's gates, queries, keys, values and carried state. Both programs are read as these. -/
module

public import Idealize.ShloMosaic.Lib.Pointwise

@[expose] public section

set_option maxRecDepth 16384

noncomputable section

namespace Cert.Mixer

open Idealize.ShloMosaic

/-! ## Words and constants -/

theorem slt64 : ∀ x : Fin 128, IntOp.cmpi .slt (BitVec.ofNat 32 x.val) 64#32 = if x.val < 64 then 1#1 else 0#1 := by
  decide +kernel

theorem sel_ite {α : Type} (c : Prop) [Decidable c] (a b : α) : Scalar.select (if c then 1#1 else 0#1) a b = if c then a else b := by
  split <;> rfl

theorem neg_inf : Ideal.ofBits .f32 4286578688#32 = (⊥ : EReal) := by
  unfold Ideal.ofBits
  simp [Ideal.ieee]

/-- A sum over 128 lanes is the sum over its two halves. -/
theorem sum_halves (f : Fin 128 → EReal) :
    ∑ x, f x = (∑ j : Fin 64, f ⟨j.val, by omega⟩) + ∑ j : Fin 64, f ⟨64 + j.val, by omega⟩ :=
  Fin.sum_univ_add (M := EReal) (a := 64) (b := 64) f

/-! ## Extended reals -/

/-- An extended real that is a real number. -/
def RealVal (x : EReal) : Prop := ∃ r : ℝ, x = (r : EReal)

theorem RealVal.zero : RealVal 0 := ⟨0, rfl⟩
theorem RealVal.add {x y : EReal} : RealVal x → RealVal y → RealVal (x + y)
  | ⟨a, ha⟩, ⟨b, hb⟩ => ⟨a + b, by rw [ha, hb, EReal.coe_add]⟩
theorem RealVal.sub_self {x : EReal} : RealVal x → x - x = 0
  | ⟨a, ha⟩ => by rw [ha, ← EReal.coe_sub, _root_.sub_self, EReal.coe_zero]

/-- A common real summand cancels in a difference. -/
theorem add_sub_add_cancel {c x y : EReal} (hc : RealVal c) : (x + c) - (c + y) = x - y := by
  obtain ⟨c, rfl⟩ := hc
  induction x using EReal.rec <;> induction y using EReal.rec <;>
    simp [← EReal.coe_add, ← EReal.coe_sub]
  norm_cast
  ring

/-! ## A running maximum in doubling steps -/

/-- The maximum of a row with the row `d` before it, where there is one. -/
def stepMax (d : Nat) (R : Fin 16 → EReal) (t : Fin 16) : EReal :=
  max (R t) (Scalar.select (IntOp.cmpi .sge (BitVec.ofNat 32 t.val) (BitVec.ofNat 32 d)) (R ⟨(t.val + 16 - d) % 16, Nat.mod_lt _ (by decide)⟩)
    (Ideal.ofBits .f32 4286578688#32))

/-- The maximum over the last `d` rows. -/
def win (d : Nat) (R : Fin 16 → EReal) (t : Fin 16) : EReal :=
  Finset.univ.sup fun s : Fin 16 => if s.val ≤ t.val ∧ t.val < s.val + d then R s else ⊥

theorem win_le {d : Nat} {R : Fin 16 → EReal} {t : Fin 16} {c : EReal} :
    win d R t ≤ c ↔ ∀ s : Fin 16, s.val ≤ t.val → t.val < s.val + d → R s ≤ c := by
  unfold win
  rw [Finset.sup_le_iff]
  constructor
  · intro h s h1 h2
    have := h s (Finset.mem_univ _)
    rwa [if_pos ⟨h1, h2⟩] at this
  · intro h s _
    split
    · next hs => exact h s hs.1 hs.2
    · exact bot_le

theorem step_win (d : Nat) (hd : 0 < d) (hd' : d < 16) (R : Fin 16 → EReal)
    (hc : ∀ t : Fin 16, IntOp.cmpi .sge (BitVec.ofNat 32 t.val) (BitVec.ofNat 32 d) = if d ≤ t.val then 1#1 else 0#1) :
    stepMax d (win d R) = win (2 * d) R := by
  funext t
  refine eq_of_forall_ge_iff fun c => ?_
  unfold stepMax
  rw [hc, sel_ite, neg_inf, max_le_iff, win_le, win_le]
  have ht := t.isLt
  split
  · next h =>
    have e : (t.val + 16 - d) % 16 = t.val - d := by omega
    rw [win_le]
    constructor
    · rintro ⟨h1, h2⟩ s hs hs'
      by_cases hb : t.val < s.val + d
      · exact h1 s hs hb
      · exact h2 s (by dsimp only; omega) (by dsimp only; omega)
    · intro h1
      exact ⟨fun s hs hs' => h1 s hs (by omega), fun s hs hs' => h1 s (by dsimp only at hs; omega) (by dsimp only at hs'; omega)⟩
  · next h =>
    constructor
    · rintro ⟨h1, -⟩ s hs hs'
      exact h1 s hs (by omega)
    · intro h1
      exact ⟨fun s hs hs' => h1 s hs (by omega), bot_le⟩

/-- Four doubling steps give the running maximum. -/
theorem cummax (R : Fin 16 → EReal) (t : Fin 16) :
    stepMax 8 (stepMax 4 (stepMax 2 (stepMax 1 R))) t = Finset.univ.sup fun s : Fin 16 => if s ≤ t then R s else ⊥ := by
  have h1 : R = win 1 R := by
    funext t
    refine eq_of_forall_ge_iff fun c => ?_
    rw [win_le]
    exact ⟨fun h s hs hs' => (Fin.ext (by omega) : s = t) ▸ h, fun h => h t le_rfl (by omega)⟩
  rw [congrArg (stepMax 1) h1, step_win 1 (by decide) (by decide) R (by decide +kernel), step_win 2 (by decide) (by decide) R (by decide +kernel),
    step_win 4 (by decide) (by decide) R (by decide +kernel), step_win 8 (by decide) (by decide) R (by decide +kernel)]
  unfold win
  refine Finset.sup_congr rfl fun s _ => ?_
  have ht := t.isLt
  exact if_congr ⟨fun h => h.1, fun h => ⟨h, by omega⟩⟩ rfl rfl

/-! ## The convolution of one channel -/

/-- Three taps over the gated rows, the two rows before the chunk taken from the history. -/
def tapped (z : Fin 16 → EReal) (hist : Fin 2 → EReal) (w : Fin 3 → EReal) (t : Fin 16) : EReal :=
  (if h : t.val < 2 then hist ⟨t.val, h⟩ else z ⟨t.val - 2, by omega⟩) * w 0 +
    (if t.val < 1 then hist 1 else z ⟨t.val - 1, by omega⟩) * w 1 + z t * w 2

/-! ## The gates of one head -/

section Gate
variable (li lf : Fin 16 → EReal) (m0 : EReal)

/-- The running sum of the forget gates. -/
def cum (t : Fin 16) : EReal := ∑ s, if s ≤ t then lf s else 0
/-- The running maximum of the input gates less the running sums, the carried stabiliser included. -/
def top (t : Fin 16) : EReal := max m0 (Finset.univ.sup fun s => if s ≤ t then li s - cum lf s else ⊥)
/-- The weight of the carried state at row `t`. -/
def wIn (t : Fin 16) : EReal := Ideal.exp (m0 - top li lf m0 t)
/-- The stabiliser at row `t`. -/
def stab (t : Fin 16) : EReal := cum lf t + top li lf m0 t
/-- The weight of row `s` at row `t`. -/
def wRow (t s : Fin 16) : EReal := Ideal.exp (if s ≤ t then 0 - top li lf m0 t + (li s - cum lf s) else ⊥)
/-- The weight of row `s` in the state carried out. -/
def wEnd (s : Fin 16) : EReal := Ideal.exp (li s - cum lf s - top li lf m0 15)

variable {li lf m0}

theorem cum_fin (h : ∀ s, RealVal (lf s)) (t : Fin 16) : RealVal (cum lf t) := by
  unfold cum
  refine Finset.sum_induction _ RealVal (fun _ _ => RealVal.add) RealVal.zero fun s _ => ?_
  split
  exacts [h s, RealVal.zero]

/-- The stabiliser as the plain recurrence writes it: every exponent formed before the maximum is taken. -/
theorem stab_eq (t : Fin 16) :
    max (m0 + cum lf t) (Finset.univ.sup fun s => if s ≤ t then cum lf t - cum lf s + li s else ⊥) = stab li lf m0 t := by
  unfold stab top
  have mono : Monotone fun x : EReal => cum lf t + x := fun a b h => add_le_add_right h _
  rw [mono.map_max, add_comm m0]
  refine congrArg (max _) ?_
  refine Eq.trans ?_ (Finset.comp_sup_eq_sup_comp (fun x : EReal => cum lf t + x) (fun x y => mono.map_max) (EReal.add_bot _)).symm
  refine Finset.sup_congr rfl fun s _ => ?_
  dsimp only [Function.comp]
  split
  · rw [sub_eq_add_neg, sub_eq_add_neg, add_assoc, add_comm (-_)]
  · exact (EReal.add_bot _).symm

theorem wIn_eq (hf : ∀ s, RealVal (lf s)) (t : Fin 16) : Ideal.exp (m0 + cum lf t - stab li lf m0 t) = wIn li lf m0 t :=
  congrArg Ideal.exp (add_sub_add_cancel (cum_fin hf t))

theorem wRow_eq (hf : ∀ s, RealVal (lf s)) (t s : Fin 16) :
    Ideal.exp ((if s ≤ t then cum lf t - cum lf s + li s else ⊥) - stab li lf m0 t) = wRow li lf m0 t s := by
  refine congrArg Ideal.exp ?_
  split
  · have e : cum lf t - cum lf s + li s = (li s - cum lf s) + cum lf t := by
      rw [sub_eq_add_neg, sub_eq_add_neg, add_assoc, add_comm, add_comm (-_)]
    rw [e]
    unfold stab
    rw [add_sub_add_cancel (cum_fin hf t), zero_sub, sub_eq_add_neg, add_comm]
  · exact EReal.bot_sub _

theorem wRow_last (s : Fin 16) : wRow li lf m0 15 s = wEnd li lf m0 s := by
  unfold wRow wEnd
  rw [if_pos (show s ≤ 15 from Fin.le_last s), zero_sub, sub_eq_add_neg _ (top li lf m0 15), add_comm]

end Gate

/-! ## The readout and the state of one head -/

section Head
variable (li lf : Fin 16 → EReal) (m0 : EReal) (q k : Fin 16 → Fin 64 → EReal) (v : Fin 16 → Fin 128 → EReal)
  (C : Fin 64 → Fin 128 → EReal) (n : Fin 64 → EReal) (o : Fin 16 → Fin 128 → EReal) (gain : Fin 128 → EReal)

/-- The scaled key. -/
def key (s : Fin 16) (j : Fin 64) : EReal := k s j * Ideal.ofBits .f32 1040187392#32
/-- The weighted score of row `s` at row `t`. -/
def score (t s : Fin 16) : EReal := (∑ j, q t j * key k s j) * wRow li lf m0 t s
/-- The readout at row `t`. -/
def readout (t : Fin 16) (d : Fin 128) : EReal :=
  Ideal.div (wIn li lf m0 t * (∑ j, q t j * C j d) + ∑ s, score li lf m0 q k t s * v s d)
    (max (FloatOps.absf (F := Ideal) (φ := .f32) (wIn li lf m0 t * (∑ j, q t j * n j) + ∑ s, score li lf m0 q k t s))
      (Ideal.exp (-stab li lf m0 t)))
/-- The readout normalised, with its gain and its output gate. -/
def gated (t : Fin 16) (d : Fin 128) : EReal :=
  readout li lf m0 q k v C n t d *
      Ideal.rsqrt (Ideal.div (∑ x, readout li lf m0 q k v C n t x * readout li lf m0 q k v C n t x) (Ideal.ofBits .f32 1124073472#32) +
        Ideal.ofBits .f32 897988541#32) * gain d * Ideal.div 1 (1 + Ideal.exp (-o t d))
/-- The state matrix carried out. -/
def cNew (j : Fin 64) (d : Fin 128) : EReal := wIn li lf m0 15 * C j d + ∑ s, wEnd li lf m0 s * key k s j * v s d
/-- The normaliser carried out. -/
def nNew (j : Fin 64) : EReal := wIn li lf m0 15 * n j + ∑ s, wEnd li lf m0 s * key k s j

end Head

end Cert.Mixer

end
-- ==== Proof.KerRead.lean ====
/- What a grid point computes, index by index, as the chunk's mathematics over the blocks it loads. -/
module

public import proofs.«01_k».proof.Proof.Vocab
public import proofs.«01_k».proof.Proof.MixMath

@[expose] public section

set_option maxRecDepth 16384

noncomputable section

namespace Cert.Mixer

open Cert.KernelIdeal Cert.KernelIdeal.Gen Idealize.ShloMosaic Idealize.ShloMosaic.Tactic

/-! ## The gates -/

section Gates
variable (x7 x8 : Vec Ideal S1x16x128 .f32) (x14 : Vec Ideal S1x1x128 .f32)

/-- Lane `j`'s gates. -/
abbrev lane (x : Vec Ideal S1x16x128 .f32) (j : Fin 128) (s : Fin 16) : EReal := x (ix3 0 s j)

theorem causal_at (t s : Fin 16) : k0_pay39 (ix2 t s) = if s ≤ t then 1#1 else 0#1 := by
  pointwise [k0_pay39, k0_pay38]
  revert t s
  decide +kernel

theorem gF_at (t : Fin 16) (j : Fin 128) (hf : ∀ s, RealVal (lane x8 j s)) : gF x8 (ix2 t j) = cum (lane x8 j) t := by
  pointwise [gF, k0_pay76, k0_pay72, k0_pay74, k0_pay75, k0_pay40, k0_pay71,k0_pay73]
  simp only [causal_at, sel_ite]
  have z : ∀ s, (x8 (ix3 0 s j) : EReal) - x8 (ix3 0 s j) = 0 := fun s => (hf s).sub_self
  simp only [z, sub_zero, ite_self, Finset.sum_const_zero, add_zero]
  rfl

theorem gR_at (t : Fin 16) (j : Fin 128) (hf : ∀ s, RealVal (lane x8 j s)) :
    gR x7 x8 (ix2 t j) = lane x7 j t - cum (lane x8 j) t := by
  rw [← gF_at x8 t j hf]
  pointwise [gR, gF, k0_pay77, k0_pay70]

theorem gX_at (t : Fin 16) (j : Fin 128) (hf : ∀ s, RealVal (lane x8 j s)) :
    gX x7 x8 x14 (ix2 t j) = top (lane x7 j) (lane x8 j) (x14 (ix3 0 0 j)) t := by
  have e : gX x7 x8 x14 (ix2 t j) = max (gM0 x14 (ix2 0 j)) (stepMax 8 (stepMax 4 (stepMax 2 (stepMax 1 fun s => gR x7 x8 (ix2 s j)))) t) := by
    pointwise [gX, k0_pay78]
    rfl
  rw [e, cummax]
  simp only [gR_at x7 x8 _ j hf]
  pointwise [gM0, k0_pay18]
  rfl

theorem gM_at (t : Fin 16) (j : Fin 128) (hf : ∀ s, RealVal (lane x8 j s)) :
    gM x7 x8 x14 (ix2 t j) = stab (lane x7 j) (lane x8 j) (x14 (ix3 0 0 j)) t := by
  unfold stab
  rw [← gX_at x7 x8 x14 t j hf, ← gF_at x8 t j hf]
  pointwise [gM, k0_pay79, gF, gX]

theorem gNX_at (t : Fin 16) (j : Fin 128) (hf : ∀ s, RealVal (lane x8 j s)) :
    gNX x7 x8 x14 (ix2 t j) = 0 - top (lane x7 j) (lane x8 j) (x14 (ix3 0 0 j)) t := by
  rw [← gX_at x7 x8 x14 t j hf]
  pointwise [gNX, k0_pay80, gX]

theorem gW_at (t : Fin 16) (j : Fin 128) (hf : ∀ s, RealVal (lane x8 j s)) :
    gW x7 x8 x14 (ix2 t j) = wIn (lane x7 j) (lane x8 j) (x14 (ix3 0 0 j)) t := by
  unfold wIn
  rw [← gX_at x7 x8 x14 t j hf]
  pointwise [gW, k0_pay81, gX, gM0, k0_pay18]

theorem gE_at (t : Fin 16) (j : Fin 128) (hf : ∀ s, RealVal (lane x8 j s)) :
    gE x7 x8 x14 (ix2 t j) = Ideal.exp (-stab (lane x7 j) (lane x8 j) (x14 (ix3 0 0 j)) t) := by
  rw [← gM_at x7 x8 x14 t j hf, ← zero_sub]
  pointwise [gE, k0_pay83, k0_pay82]

theorem gS_at (t : Fin 16) (j : Fin 128) (hf : ∀ s, RealVal (lane x8 j s)) :
    gS x7 x8 x14 (ix2 t j) = wEnd (lane x7 j) (lane x8 j) (x14 (ix3 0 0 j)) t := by
  unfold wEnd
  rw [← gX_at x7 x8 x14 15 j hf, ← gR_at x7 x8 t j hf]
  pointwise [gS, k0_pay84]

theorem gI_at (j : Fin 128) (hf : ∀ s, RealVal (lane x8 j s)) :
    gI x7 x8 x14 (ix2 0 j) = wIn (lane x7 j) (lane x8 j) (x14 (ix3 0 0 j)) 15 := by
  rw [← gW_at x7 x8 x14 15 j hf]
  pointwise [gI, k0_pay85]

theorem gT_at (t : Fin 16) (j : Fin 128) (hf : ∀ s, RealVal (lane x8 j s)) :
    gT x7 x8 (ix2 j t) = lane x7 j t - cum (lane x8 j) t := by
  rw [← gR_at x7 x8 t j hf]
  pointwise [gT, k0_pay86]

theorem gN_at (j : Fin 128) (hf : ∀ s, RealVal (lane x8 j s)) :
    gN x7 x8 x14 (ix2 0 j) = stab (lane x7 j) (lane x8 j) (x14 (ix3 0 0 j)) 15 := by
  rw [← gM_at x7 x8 x14 15 j hf]
  pointwise [gN, k0_pay87]

end Gates

/-! ## Parts of the blocks at an index -/

section Loads

theorem ldP_at (p : Fin 4) (x : Vec Ideal S1x16x512 .f32) (t : Fin 16) (j : Fin 128) :
    ldP p x (ix3 0 t j) = x (ix3 0 t ⟨128 * p.val + j.val, by omega⟩) := by pointwise [ldP]
theorem ldV_at (p : Fin 4) (x : Vec Ideal S1x16x1024 .bf16) (t : Fin 16) (j : Fin 256) :
    ldV p x (ix3 0 t j) = x (ix3 0 t ⟨256 * p.val + j.val, by omega⟩) := by pointwise [ldV]
theorem ldO_at (h : Fin 8) (x : Vec Ideal S1x16x1024 .f32) (t : Fin 16) (j : Fin 128) :
    ldO h x (ix3 0 t j) = x (ix3 0 t ⟨128 * h.val + j.val, by omega⟩) := by pointwise [ldO]
theorem ldW_at (g : Fin 4) (x : Vec Ideal S1x16x1024 .f32) (t : Fin 16) (j : Fin 256) :
    ldW g x (ix3 0 t j) = x (ix3 0 t ⟨256 * g.val + j.val, by omega⟩) := by pointwise [ldW]
theorem ldC_at (g : Fin 4) (x : Vec Ideal S1x2x1024 .f32) (t : Fin 2) (j : Fin 256) :
    ldC g x (ix3 0 t j) = x (ix3 0 t ⟨256 * g.val + j.val, by omega⟩) := by pointwise [ldC]
theorem ldT_at (g : Fin 4) (r : Fin 3) (x : Vec Ideal S3x1024 .f32) (j : Fin 256) :
    ldT g r x (ix2 0 j) = x (ix2 r ⟨256 * g.val + j.val, by omega⟩) := by pointwise [ldT]
theorem ldG_at (h : Fin 8) (x : Vec Ideal S1x1024 .f32) (j : Fin 128) :
    ldG h x (ix2 0 j) = x (ix2 0 ⟨128 * h.val + j.val, by omega⟩) := by pointwise [ldG]
theorem ldM_at (h : Fin 8) (x : Vec Ideal S1x8x64x128 .f32) (j : Fin 64) (d : Fin 128) :
    ldM h x (ix4 0 0 j d) = x (ix4 0 h j d) := by pointwise [ldM]
theorem ldN_at (p : Fin 4) (x : Vec Ideal S1x4x128 .f32) (j : Fin 128) :
    ldN p x (ix3 0 0 j) = x (ix3 0 p j) := by pointwise [ldN]
theorem col_at (h : Fin 8) (v : FVec Ideal S16x128 .f32) (t : Fin 16) :
    col h v (ix2 t 0) = v (ix2 t ⟨h.val, by omega⟩) := by pointwise [col]
theorem row_at (h : Fin 8) (v : FVec Ideal S128x16 .f32) (t : Fin 16) :
    row h v (ix2 0 t) = v (ix2 ⟨h.val, by omega⟩ t) := by pointwise [row]
theorem ent_at (h : Fin 8) (v : FVec Ideal S1x128 .f32) :
    ent h v (ix2 0 0) = v (ix2 0 ⟨h.val, by omega⟩) := by pointwise [ent]

end Loads

/-! ## A pair's products -/

section Pair
variable (p : Fin 4) (e : Fin 2) (x3 x4 : Vec Ideal S1x16x512 .f32) (x12 : Vec Ideal S1x8x64x128 .f32) (x13 : Vec Ideal S1x4x128 .f32)

theorem sel_one {α : Type} (a b : α) : Scalar.select 1#1 a b = a := rfl
theorem sel_zero {α : Type} (a b : α) : Scalar.select 0#1 a b = b := rfl
theorem slt_half (x : Fin 64) : IntOp.cmpi .slt (BitVec.ofNat 32 x.val) 64#32 = 1#1 := by revert x; decide +kernel
theorem slt_half' (x : Fin 64) : IntOp.cmpi .slt (BitVec.ofNat 32 (64 + x.val)) 64#32 = 0#1 := by revert x; decide +kernel

theorem qk_at (t s : Fin 16) : qkn p x3 x4 x13 (ix2 ⟨16 * e.val + t.val, by omega⟩ ⟨128 + s.val, by omega⟩) =
    ∑ j : Fin 64, x3 (ix3 0 t ⟨128 * p.val + 64 * e.val + j.val, by omega⟩) *
      (x4 (ix3 0 s ⟨128 * p.val + 64 * e.val + j.val, by omega⟩) * Ideal.ofBits .f32 1040187392#32) := by
  match e with
  | 0 =>
    pointwise [qkn, k0_pay91, k0_pay90, k0_pay89, k0_pay88, k0_pay41, k0_pay10, nIn]
    rw [sum_halves]
    simp only [slt_half, slt_half', sel_one, sel_zero, Finset.sum_const_zero, add_zero, zero_add, mul_zero, ldP_at, Nat.add_assoc, ev, od]
  | 1 =>
    pointwise [qkn, k0_pay91, k0_pay90, k0_pay89, k0_pay88, k0_pay41, k0_pay10, nIn]
    rw [sum_halves]
    simp only [slt_half, slt_half', sel_one, sel_zero, Finset.sum_const_zero, add_zero, zero_add, mul_zero, ldP_at, Nat.add_assoc, ev, od]

theorem qn_at (t : Fin 16) (d : Fin 128) : qkn p x3 x4 x13 (ix2 ⟨16 * e.val + t.val, by omega⟩ ⟨d.val, by omega⟩) =
    ∑ j : Fin 64, x3 (ix3 0 t ⟨128 * p.val + 64 * e.val + j.val, by omega⟩) * x13 (ix3 0 p ⟨64 * e.val + j.val, by omega⟩) := by
  match e with
  | 0 =>
    pointwise [qkn, k0_pay91, k0_pay90, k0_pay89, k0_pay88, k0_pay41, k0_pay10, nIn]
    rw [sum_halves]
    simp only [slt_half, slt_half', sel_one, sel_zero, Finset.sum_const_zero, add_zero, zero_add, mul_zero, ldP_at, ldN_at, Nat.add_assoc, ev, od]
  | 1 =>
    pointwise [qkn, k0_pay91, k0_pay90, k0_pay89, k0_pay88, k0_pay41, k0_pay10, nIn]
    rw [sum_halves]
    simp only [slt_half, slt_half', sel_one, sel_zero, Finset.sum_const_zero, add_zero, zero_add, mul_zero, ldP_at, ldN_at, Nat.add_assoc, ev, od]

theorem qc_at (t : Fin 16) (d : Fin 128) : qc p x3 x12 (ix2 ⟨16 * e.val + t.val, by omega⟩ ⟨128 * e.val + d.val, by omega⟩) =
    ∑ j : Fin 64, x3 (ix3 0 t ⟨128 * p.val + 64 * e.val + j.val, by omega⟩) * x12 (ix4 0 ⟨2 * p.val + e.val, by omega⟩ j d) := by
  match e with
  | 0 =>
    pointwise [qc, k0_pay92, k0_pay90, cIn, k0_pay9, k0_pay8, k0_pay41]
    simp only [slt_half, slt_half', sel_one, sel_zero, Finset.sum_const_zero, add_zero, zero_add, mul_zero, ldP_at, ldM_at, Nat.add_assoc, ev, od]
  | 1 =>
    pointwise [qc, k0_pay92, k0_pay90, cIn, k0_pay9, k0_pay8, k0_pay41]
    simp only [slt_half, slt_half', sel_one, sel_zero, Finset.sum_const_zero, add_zero, zero_add, mul_zero, ldP_at, ldM_at, Nat.add_assoc, ev, od]

end Pair

/-! ## A head's readout -/

section Head
variable (h : Fin 8) (x3 x4 : Vec Ideal S1x16x512 .f32) (x5 : Vec Ideal S1x16x1024 .bf16) (x6 : Vec Ideal S1x16x1024 .f32)
  (x7 x8 : Vec Ideal S1x16x128 .f32) (x10 : Vec Ideal S1x1024 .f32) (x12 : Vec Ideal S1x8x64x128 .f32) (x13 : Vec Ideal S1x4x128 .f32)
  (x14 : Vec Ideal S1x1x128 .f32)

/-- The blocks' parts that belong to head `h`. -/
abbrev hl : Fin 128 := ⟨h.val, by omega⟩
abbrev bQ (x : Vec Ideal S1x16x512 .f32) (t : Fin 16) (j : Fin 64) : EReal := x (ix3 0 t ⟨h.val * 64 + j.val, by omega⟩)
abbrev bV (x : Vec Ideal S1x16x1024 .bf16) (t : Fin 16) (d : Fin 128) : EReal := x (ix3 0 t ⟨h.val * 128 + d.val, by omega⟩)
abbrev bO (x : Vec Ideal S1x16x1024 .f32) (t : Fin 16) (d : Fin 128) : EReal := x (ix3 0 t ⟨h.val * 128 + d.val, by omega⟩)
abbrev bG (x : Vec Ideal S1x1024 .f32) (d : Fin 128) : EReal := x (ix2 0 ⟨h.val * 128 + d.val, by omega⟩)
abbrev bC (x : Vec Ideal S1x8x64x128 .f32) (j : Fin 64) (d : Fin 128) : EReal := x (ix4 0 h j d)
abbrev bN (x : Vec Ideal S1x4x128 .f32) (j : Fin 64) : EReal := x (ix3 0 (pr h) ⟨64 * (sd h).val + j.val, by omega⟩)
abbrev bM : EReal := x14 (ix3 0 0 (hl h))

theorem at64 (j : Fin 64) : 128 * (pr h).val + 64 * (sd h).val + j.val = h.val * 64 + j.val := by
  have := h.isLt
  simp only [pr, sd]
  omega

theorem at_head : 2 * (pr h).val + (sd h).val = h.val := by
  simp only [pr, sd]
  omega

theorem hqk_at (t s : Fin 16) : qkn (pr h) x3 x4 x13 (ix2 ⟨16 * (sd h).val + t.val, by omega⟩ ⟨128 + s.val, by omega⟩) =
    ∑ j, bQ h x3 t j * key (bQ h x4) s j := by
  rw [qk_at]
  simp only [at64, key]

theorem hqn_at (t : Fin 16) (d : Fin 128) : qkn (pr h) x3 x4 x13 (ix2 ⟨16 * (sd h).val + t.val, by omega⟩ ⟨d.val, by omega⟩) =
    ∑ j, bQ h x3 t j * bN h x13 j := by
  rw [qn_at]
  simp only [at64]

theorem hqc_at (t : Fin 16) (d : Fin 128) : qc (pr h) x3 x12 (ix2 ⟨16 * (sd h).val + t.val, by omega⟩ ⟨128 * (sd h).val + d.val, by omega⟩) =
    ∑ j, bQ h x3 t j * bC h x12 j d := by
  rw [qc_at]
  simp only [at64, at_head, Fin.eta]

theorem scr_at (t s : Fin 16) (hf : ∀ s, RealVal (lane x8 (hl h) s)) : scr h x3 x4 x7 x8 x13 x14 (ix2 t s) =
    score (lane x7 (hl h)) (lane x8 (hl h)) (bM h x14) (bQ h x3) (bQ h x4) t s := by
  unfold score wRow
  rw [← hqk_at h x3 x4 x13, ← gNX_at x7 x8 x14 t (hl h) hf, ← gT_at x7 x8 s (hl h) hf, ← neg_inf, ← sel_ite, ← causal_at]
  pointwise [scr]
  rw [col_at, row_at]

theorem hdv_at (t : Fin 16) (d : Fin 128) (hf : ∀ s, RealVal (lane x8 (hl h) s)) : hdv h x3 x4 x5 x7 x8 x12 x13 x14 (ix2 t d) =
    readout (lane x7 (hl h)) (lane x8 (hl h)) (bM h x14) (bQ h x3) (bQ h x4) (bV h x5) (bC h x12) (bN h x13) t d := by
  unfold readout
  simp only [← scr_at h x3 x4 x7 x8 x13 x14 _ _ hf]
  rw [← hqc_at h x3 x12, ← hqn_at h x3 x4 x13 t d, ← gW_at x7 x8 x14 t (hl h) hf, ← gE_at x7 x8 x14 t (hl h) hf]
  pointwise [hdv, k0_pay93]
  have e : 256 * (pr h).val + (128 * (sd h).val + d.val) = h.val * 128 + d.val := by
    have := at_head h
    omega
  simp only [ldV_at, col_at, e]

theorem hdo_at (t : Fin 16) (d : Fin 128) (hf : ∀ s, RealVal (lane x8 (hl h) s)) : hdo h x3 x4 x5 x6 x7 x8 x10 x12 x13 x14 (ix3 0 t d) =
    gated (lane x7 (hl h)) (lane x8 (hl h)) (bM h x14) (bQ h x3) (bQ h x4) (bV h x5) (bC h x12) (bN h x13) (bO h x6) (bG h x10) t d := by
  unfold gated
  simp only [← hdv_at h x3 x4 x5 x7 x8 x12 x13 x14 _ _ hf]
  pointwise [hdo, k0_pay186, k0_pay98, k0_pay95, k0_pay94, k0_pay97, k0_pay96]
  simp only [ldO_at, ldG_at, zero_sub, Nat.mul_comm 128]

end Head

/-! ## A head's state -/

section State
variable (p : Fin 4) (e : Fin 2) (h : Fin 8) (x4 : Vec Ideal S1x16x512 .f32) (x5 : Vec Ideal S1x16x1024 .bf16) (x7 x8 : Vec Ideal S1x16x128 .f32)
  (x12 : Vec Ideal S1x8x64x128 .f32) (x13 : Vec Ideal S1x4x128 .f32) (x14 : Vec Ideal S1x1x128 .f32)

theorem cOut_at (j : Fin 64) (d : Fin 128) : cOut p x4 x5 x7 x8 x12 x14 (ix2 ⟨64 * e.val + j.val, by omega⟩ ⟨128 * e.val + d.val, by omega⟩) =
    gI x7 x8 x14 (ix2 0 ⟨2 * p.val + e.val, by omega⟩) * x12 (ix4 0 ⟨2 * p.val + e.val, by omega⟩ j d) +
      ∑ s : Fin 16, x4 (ix3 0 s ⟨128 * p.val + 64 * e.val + j.val, by omega⟩) * Ideal.ofBits .f32 1040187392#32 *
        gS x7 x8 x14 (ix2 s ⟨2 * p.val + e.val, by omega⟩) * x5 (ix3 0 s ⟨256 * p.val + 128 * e.val + d.val, by omega⟩) := by
  match e with
  | 0 =>
    pointwise [cOut, k0_pay93, k0_pay88, cIn, wgt, k0_pay41, k0_pay9, k0_pay8]
    simp only [slt_half, slt_half', sel_one, sel_zero, ent_at, col_at, ldM_at, ldN_at, ldP_at, ldV_at, mul_zero, Finset.sum_const_zero, add_zero, ev, od, Nat.add_assoc]
  | 1 =>
    pointwise [cOut, k0_pay93, k0_pay88, cIn, wgt, k0_pay41, k0_pay9, k0_pay8]
    simp only [slt_half, slt_half', sel_one, sel_zero, ent_at, col_at, ldM_at, ldN_at, ldP_at, ldV_at, mul_zero, Finset.sum_const_zero, add_zero, ev, od, Nat.add_assoc]

theorem nOut_at (j : Fin 64) : nOut p x4 x7 x8 x13 x14 (ix2 0 ⟨64 * e.val + j.val, by omega⟩) =
    gI x7 x8 x14 (ix2 0 ⟨2 * p.val + e.val, by omega⟩) * x13 (ix3 0 p ⟨64 * e.val + j.val, by omega⟩) +
      ∑ s : Fin 16, x4 (ix3 0 s ⟨128 * p.val + 64 * e.val + j.val, by omega⟩) * Ideal.ofBits .f32 1040187392#32 *
        gS x7 x8 x14 (ix2 s ⟨2 * p.val + e.val, by omega⟩) := by
  match e with
  | 0 =>
    pointwise [nOut, k0_pay93, k0_pay88, k0_pay89, nIn, wgt, k0_pay41, k0_pay10]
    simp only [slt_half, slt_half', sel_one, sel_zero, ent_at, col_at, ldM_at, ldN_at, ldP_at, ldV_at, mul_zero, Finset.sum_const_zero, add_zero, ev, od, Nat.add_assoc]
  | 1 =>
    pointwise [nOut, k0_pay93, k0_pay88, k0_pay89, nIn, wgt, k0_pay41, k0_pay10]
    simp only [slt_half, slt_half', sel_one, sel_zero, ent_at, col_at, ldM_at, ldN_at, ldP_at, ldV_at, mul_zero, Finset.sum_const_zero, add_zero, ev, od, Nat.add_assoc]

end State

/-! ## The convolution -/

section Conv
variable (g : Fin 4) (x0 x1 x2 : Vec Ideal S1x16x1024 .f32) (x9 : Vec Ideal S3x1024 .f32) (x11 : Vec Ideal S1x2x1024 .f32)

theorem car_at (r : Fin 2) (d : Fin 256) : car g x11 (ix2 ⟨6 + r.val, by omega⟩ d) = x11 (ix3 0 r ⟨256 * g.val + d.val, by omega⟩) := by
  rw [← ldC_at g x11 r d, car_eq]
  have e : (Rect.unit ![0, 0] ![8, 256] (by decide) : Rect S8x256).idx (ix2 ⟨6 + r.val, by omega⟩ d) =
      (Rect.unit ![6, 0] ![2, 256] (by decide) : Rect S8x256).emb (ix2 r d) := by
    funext a
    match a with
    | ⟨0, _⟩ => exact Fin.ext (by show 0 + 1 * (6 + r.val) = 6 + 1 * r.val; omega)
    | ⟨1, _⟩ => exact Fin.ext (by show 0 + 1 * d.val = 0 + 1 * d.val; rfl)
  dsimp only
  rw [e, View.canon_cons_emb]
  pointwise []

theorem czo_at (r : Fin 2) (d : Fin 256) : czo g x0 x1 (ix3 0 r d) =
    x1 (ix3 0 ⟨14 + r.val, by omega⟩ ⟨256 * g.val + d.val, by omega⟩) * x0 (ix3 0 ⟨14 + r.val, by omega⟩ ⟨256 * g.val + d.val, by omega⟩) := by
  pointwise [czo, cz, k0_pay23, k0_pay178, k0_pay50, k0_pay42]
  simp only [ldW_at]

theorem cvo_at (t : Fin 16) (d : Fin 256) (k : Fin 1024) (hk : k.val = 256 * g.val + d.val) : cvo g x0 x1 x2 x9 x11 (ix3 0 t d) =
    x2 (ix3 0 t k) * tapped (fun s => x1 (ix3 0 s k) * x0 (ix3 0 s k)) (fun r => x11 (ix3 0 r k)) (fun r => x9 (ix2 r k)) t := by
  have hb : 256 * g.val + d.val < 1024 := by omega
  have ek : k = ⟨256 * g.val + d.val, hb⟩ := Fin.ext hk
  clear hk
  subst ek
  pointwise [cvo, cz, k0_pay177, k0_pay49, k0_pay43, k0_pay44, k0_pay45, k0_pay46, k0_pay47, k0_pay48, k0_pay42]
  have c6 : car g x11 (ix2 6 d) = _ := car_at g x11 0 d
  have c7 : car g x11 (ix2 7 d) = _ := car_at g x11 1 d
  have s2 : IntOp.cmpi .sge (BitVec.ofNat 32 t.val) 2#32 = if 2 ≤ t.val then 1#1 else 0#1 := by revert t; decide +kernel
  have s1 : IntOp.cmpi .sge (BitVec.ofNat 32 t.val) 1#32 = if 1 ≤ t.val then 1#1 else 0#1 := by revert t; decide +kernel
  have e1 : IntOp.cmpi .eq (BitVec.ofNat 32 t.val) 1#32 = if t.val = 1 then 1#1 else 0#1 := by revert t; decide +kernel
  rw [c6, c7, s1, s2, e1, sel_ite, sel_ite, sel_ite]
  simp only [ldW_at, ldT_at]
  unfold tapped
  refine congrArg (fun a : EReal => (x2 (ix3 0 t _) : EReal) * a) (congrArg₂ (fun a c : EReal => a + c)
    (congrArg₂ (fun a c : EReal => a + c) (congrArg₂ (fun a c : EReal => a * c) ?_ rfl) (congrArg₂ (fun a c : EReal => a * c) ?_ rfl)) rfl)
  · by_cases h : 2 ≤ t.val
    · rw [if_pos h, dif_neg (by omega)]
      have e : (⟨(t.val + 16 - 2) % 16, Nat.mod_lt _ (by decide)⟩ : Fin 16) = ⟨t.val - 2, by omega⟩ := Fin.ext (by dsimp only; omega)
      rw [e]
    · rw [if_neg h, dif_pos (by omega)]
      by_cases h1 : t.val = 1
      · obtain rfl : t = 1 := Fin.ext h1
        rfl
      · obtain rfl : t = 0 := Fin.ext (by show t.val = 0; omega)
        rfl
  · by_cases h : 1 ≤ t.val
    · rw [if_pos h, if_neg (by omega)]
      have e : (⟨(t.val + 16 - 1) % 16, Nat.mod_lt _ (by decide)⟩ : Fin 16) = ⟨t.val - 1, by omega⟩ := Fin.ext (by dsimp only; omega)
      rw [e]
    · rw [if_neg h, if_pos (by omega)]

end Conv

end Cert.Mixer

end
-- ==== Proof.RefRead.lean ====
/- The reference's values, index by index, as the chunk's mathematics. -/
module

public import proofs.«01_k».proof.Proof.Gen.ReferenceIdeal.Read
public import proofs.«01_k».proof.Proof.MixMath

@[expose] public section

set_option maxRecDepth 16384

noncomputable section

namespace Cert.Mixer.Ref

open Cert.ReferenceIdeal Cert.ReferenceIdeal.Gen Cert.ReferenceIdeal.Read Idealize.ShloMosaic Idealize.ShloMosaic.Tactic

variable (x0 x1 x2 x5 x6 : Vec Ideal S16x16x1024 .f32) (x3 x4 : Vec Ideal S16x16x512 .f32) (x7 x8 : Vec Ideal S16x16x8 .f32) (x9 : Vec Ideal S3x1024 .f32) (x10 : Vec Ideal S1024 .f32) (x11 : Vec Ideal S16x2x1024 .f32) (x12 : Vec Ideal S16x8x64x128 .f32) (x13 : Vec Ideal S16x8x64 .f32) (x14 : Vec Ideal S16x8 .f32)
  (b : Fin 16) (h : Fin 8)

/-! ## The running sum -/

theorem foldl_add {N : Nat} (g : Fin N → EReal) (v : EReal) :
    (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- A window's positions in order. -/
theorem win_pos : ∀ n : Fin (⟨3, ![1, 1, 16]⟩ : Shape).numel, ∀ a : Fin 3,
    ((⟨3, ![1, 1, 16]⟩ : Shape).rowMajor.symm n a).val = (![0, 0, n.val] : Fin 3 → Nat) a := by decide +kernel

/-- The row a window position reads. -/
theorem turn : ∀ t n : Fin 16, (15 ≤ t.val + n.val ↔ n + (t + 1) ≤ t) ∧ (15 ≤ t.val + n.val → (n + (t + 1)).val = t.val + n.val - 15) := by
  decide +kernel

theorem v34_at (t : Fin 16) : val_main_v34 x8 (ix3 b h t) = cum (fun s => x8 (ix3 b s h)) t := by
  have e : val_main_v34 (F := Ideal) x8 = Ideal.hostReduceWindowAdd (s := S16x8x16) (t := S16x8x16) ![1, 1, 16] ![1, 1, 1] ![0, 0, 15] ![0, 0, 0] (by decide)
      (val_main_v33 (F := Ideal) x8) 0 := by
    unfold val_main_v34 Host.reduceWindowAdd
    exact congrArg (Ideal.hostReduceWindowAdd (s := S16x8x16) (t := S16x8x16) ![1, 1, 16] ![1, 1, 1] ![0, 0, 15] ![0, 0, 0] (by decide)
      (val_main_v33 (F := Ideal) x8)) (Ideal.ofBits_zero_f32)
  rw [e]
  unfold Ideal.hostReduceWindowAdd Host.reduceWindow
  dsimp only
  rw [foldl_add, zero_add]
  refine (Finset.sum_congr rfl (g := fun n : Fin 16 => if hn : 15 ≤ t.val + n.val then (x8 (ix3 b ⟨t.val + n.val - 15, by omega⟩ h) : EReal) else 0) fun n _ => ?_).trans ?_
  · have p0 : ((⟨3, ![1, 1, 16]⟩ : Shape).rowMajor.symm n 0).val = 0 := win_pos n 0
    have p1 : ((⟨3, ![1, 1, 16]⟩ : Shape).rowMajor.symm n 1).val = 0 := win_pos n 1
    have p2 : ((⟨3, ![1, 1, 16]⟩ : Shape).rowMajor.symm n 2).val = n.val := win_pos n 2
    have hn : n.val < 16 := n.isLt
    by_cases hn15 : 15 ≤ t.val + n.val
    · rw [dif_pos hn15, dif_pos]
      · refine (congrArg (val_main_v33 (F := Ideal) x8) (a₂ := ix3 b h ⟨t.val + n.val - 15, by omega⟩) (funext fun a => Fin.ext ?_)).trans ?_
        · match a with
          | ⟨0, _⟩ => show b.val * 1 + ((⟨3, ![1, 1, 16]⟩ : Shape).rowMajor.symm n 0).val - 0 = b.val; omega
          | ⟨1, _⟩ => show h.val * 1 + ((⟨3, ![1, 1, 16]⟩ : Shape).rowMajor.symm n 1).val - 0 = h.val; omega
          | ⟨2, _⟩ => show t.val * 1 + ((⟨3, ![1, 1, 16]⟩ : Shape).rowMajor.symm n 2).val - 15 = t.val + n.val - 15; omega
        · pointwise [val_main_v33]
      · intro a
        match a with
        | ⟨0, _⟩ => show 0 ≤ b.val * 1 + ((⟨3, ![1, 1, 16]⟩ : Shape).rowMajor.symm n 0).val ∧ b.val * 1 + ((⟨3, ![1, 1, 16]⟩ : Shape).rowMajor.symm n 0).val - 0 < 16; omega
        | ⟨1, _⟩ => show 0 ≤ h.val * 1 + ((⟨3, ![1, 1, 16]⟩ : Shape).rowMajor.symm n 1).val ∧ h.val * 1 + ((⟨3, ![1, 1, 16]⟩ : Shape).rowMajor.symm n 1).val - 0 < 8; omega
        | ⟨2, _⟩ => show 15 ≤ t.val * 1 + ((⟨3, ![1, 1, 16]⟩ : Shape).rowMajor.symm n 2).val ∧ t.val * 1 + ((⟨3, ![1, 1, 16]⟩ : Shape).rowMajor.symm n 2).val - 15 < 16; omega
    · rw [dif_neg hn15, dif_neg]
      intro hall
      have h2 := hall 2
      change 15 ≤ t.val * 1 + ((⟨3, ![1, 1, 16]⟩ : Shape).rowMajor.symm n 2).val ∧ _ at h2
      omega
  · unfold cum
    refine Fintype.sum_equiv (Equiv.addRight (t + 1)) _ _ fun n => ?_
    obtain ⟨h1, h2⟩ := turn t n
    rw [Equiv.coe_addRight]
    by_cases hn15 : 15 ≤ t.val + n.val
    · rw [dif_pos hn15, if_pos (h1.mp hn15)]
      exact congrArg (fun s => (x8 (ix3 b s h) : EReal)) (Fin.ext (h2 hn15).symm)
    · rw [dif_neg hn15, if_neg (fun hc => hn15 (h1.mpr hc))]

/-! ## The gates -/

theorem causal : ∀ t s : Fin 16, IntOp.cmpi .sge (IntOp.addi (BitVec.ofNat 32 t.val) 0#32) (BitVec.ofNat 32 s.val) = if s ≤ t then 1#1 else 0#1 := by
  decide +kernel

/-- Head `h`'s gates of row `b`. -/
abbrev LI (s : Fin 16) : EReal := x7 (ix3 b s h)
abbrev LF (s : Fin 16) : EReal := x8 (ix3 b s h)
abbrev M0 : EReal := x14 (ix2 b h)

theorem v48_at (t s : Fin 16) : val_main_v48 x7 x8 (ix4 b h t s)
    = if s ≤ t then cum (LF x8 b h) t - cum (LF x8 b h) s + LI x7 b h s else ⊥ := by
  pointwise [val_main_v48, val_main_call2_v2, val_main_call2_v0, val_main_cst_0, val_main_v45, val_main_v44, val_main_v43, val_main_v32, val_main_v42, val_main_v41, val_main_v39, val_main_v40, val_main_v38, val_main_call2_v1, val_main_v47, val_main_call1_v5, val_main_call1_c_0, val_main_v46, val_main_c, val_main_call1_v4, val_main_call1_v3, val_main_call1_v2, val_main_call1_v1, val_main_call1_c, val_main_call1_v0]
  rw [causal, sel_ite, sel_ite, v34_at, v34_at]
  exact congrArg (ite _ _) neg_inf

theorem v49_at (t : Fin 16) : val_main_v49 x7 x8 (ix3 b h t)
    = Finset.univ.sup fun s => if s ≤ t then cum (LF x8 b h) t - cum (LF x8 b h) s + LI x7 b h s else ⊥ := by
  pointwise [val_main_v49, val_main_cst_1]
  rw [neg_inf]
  simp only [v48_at]
  rfl

section
variable (hf : ∀ s, RealVal (LF x8 b h s))
include hf

theorem v50_at (t : Fin 16) : val_main_v50 x7 x8 x14 (ix3 b h t) = stab (LI x7 b h) (LF x8 b h) (M0 x14 b h) t := by
  pointwise [val_main_v50, val_main_v37, val_main_v36, val_main_v35]
  rw [v34_at, v49_at]
  exact stab_eq t

theorem v52_at (t : Fin 16) : val_main_v52 x7 x8 x14 (ix3 b h t) = wIn (LI x7 b h) (LF x8 b h) (M0 x14 b h) t := by
  pointwise [val_main_v52, val_main_v51, val_main_v37, val_main_v36, val_main_v35]
  rw [v34_at, v50_at x7 x8 x14 b h hf]
  exact wIn_eq hf t

theorem v56_at (t s : Fin 16) : val_main_v56 x7 x8 x14 (ix4 b h t s) = wRow (LI x7 b h) (LF x8 b h) (M0 x14 b h) t s := by
  pointwise [val_main_v56, val_main_v55, val_main_v54, val_main_v53]
  rw [v48_at, v50_at x7 x8 x14 b h hf]
  exact wRow_eq hf t s

/-! ## The readout -/

/-- Head `h`'s queries, keys, values and carried state in row `b`. -/
abbrev QQ (t : Fin 16) (j : Fin 64) : EReal := x3 (ix3 b t ⟨h.val * 64 + j.val, by omega⟩)
abbrev VV (t : Fin 16) (d : Fin 128) : EReal := x5 (ix3 b t ⟨h.val * 128 + d.val, by omega⟩)
abbrev CC (j : Fin 64) (d : Fin 128) : EReal := x12 (ix4 b h j d)
abbrev NN (j : Fin 64) : EReal := x13 (ix3 b h j)
abbrev GG (d : Fin 128) : EReal := x10 (ix1 ⟨h.val * 128 + d.val, by omega⟩)

theorem v58_at (t s : Fin 16) : val_main_v58 x3 x4 x7 x8 x14 (ix4 b h t s)
    = score (LI x7 b h) (LF x8 b h) (M0 x14 b h) (QQ x3 b h) (QQ x4 b h) t s := by
  pointwise [val_main_v58, val_main_v57, val_main_v30, val_main_v27, val_main_v26, val_main_cst, val_main_v25, val_main_v29, val_main_v24]
  rw [v56_at x7 x8 x14 b h hf]
  rfl

theorem v75_at (t : Fin 16) (d : Fin 128) : val_main_v75 x3 x4 x5 x7 x8 x12 x13 x14 (ix4 b h t d)
    = readout (LI x7 b h) (LF x8 b h) (M0 x14 b h) (QQ x3 b h) (QQ x4 b h) (VV x5 b h) (CC x12 b h) (NN x13 b h) t d := by
  pointwise [val_main_v75, val_main_v74, val_main_v73, val_main_v72, val_main_v71, val_main_v70, val_main_v69, val_main_v64, val_main_v63, val_main_v31, val_main_v28, val_main_v62, val_main_v60, val_main_v29, val_main_v24, val_main_v61, val_main_v59, val_main_v68, val_main_v67, val_main_cst_2, val_main_v66, val_main_v65]
  simp only [v52_at x7 x8 x14 b h hf, v50_at x7 x8 x14 b h hf, v58_at x3 x4 x7 x8 x14 b h hf]
  rfl

theorem mix_head (t : Fin 16) (d : Fin 128) : val_main_v118 x0 x1 x2 x3 x4 x5 x6 x7 x8 x9 x10 x11 x12 x13 x14 (ix3 b t ⟨1024 + (h.val * 128 + d.val), by omega⟩)
    = gated (LI x7 b h) (LF x8 b h) (M0 x14 b h) (QQ x3 b h) (QQ x4 b h) (VV x5 b h) (CC x12 b h) (NN x13 b h) (VV x6 b h) (GG x10 h) t d := by
  pointwise [val_main_v118, val_main_v117, val_main_v116, val_main_v115, val_main_v113, val_main_v111, val_main_v110, val_main_v112, val_main_cst_6, val_main_v114, val_main_cst_7, val_main_v109, val_main_v108, val_main_v107, val_main_v106, val_main_v105, val_main_v104, val_main_v103, val_main_v102, val_main_v101, val_main_cst_5, val_main_v100, val_main_v99, val_main_cst_4, val_main_v98, val_main_v97, val_main_cst_3, val_main_v96, val_main_v95]
  simp only [v75_at x5 x3 x4 x7 x8 x12 x13 x14 b h hf]
  rfl

/-! ## The state carried out -/

theorem c_at (j : Fin 64) (d : Fin 128) : val_main_v87 x4 x5 x7 x8 x12 x14 (ix4 b h j d)
    = cNew (LI x7 b h) (LF x8 b h) (M0 x14 b h) (QQ x4 b h) (VV x5 b h) (CC x12 b h) j d := by
  pointwise [val_main_v87, val_main_v86, val_main_v31, val_main_v28, val_main_v85, val_main_v30, val_main_v27, val_main_v26, val_main_cst, val_main_v25, val_main_v84, val_main_v83, val_main_v79, val_main_v78, val_main_v82, val_main_v81, val_main_v80, val_main_v77, val_main_v76]
  simp only [v52_at x7 x8 x14 b h hf, v56_at x7 x8 x14 b h hf, wRow_last]
  rfl

theorem n_at (p : Fin 4) (e : Fin 2) (j : Fin 64) (hp : h.val = p.val * 2 + e.val) :
    val_main_v119 x4 x7 x8 x13 x14 (ix3 b p ⟨e.val * 64 + j.val, by omega⟩)
    = nNew (LI x7 b h) (LF x8 b h) (M0 x14 b h) (QQ x4 b h) (NN x13 b h) j := by
  pointwise [val_main_v119, val_main_v92, val_main_v91, val_main_v30, val_main_v27, val_main_v26, val_main_cst, val_main_v25, val_main_v79, val_main_v78, val_main_v90, val_main_v89, val_main_v88, val_main_v77, val_main_v76]
  have a1 : p.val * 2 + (e.val * 64 + j.val) / 64 = h.val := by omega
  have a2 : (e.val * 64 + j.val) % 64 = j.val := by omega
  simp only [a1, a2, Fin.eta]
  simp only [v52_at x7 x8 x14 b h hf, v56_at x7 x8 x14 b h hf, wRow_last]
  rfl

theorem m_at (e : Fin 1) : val_main_v121 x7 x8 x14 (ix3 b e ⟨h.val, by omega⟩) = stab (LI x7 b h) (LF x8 b h) (M0 x14 b h) 15 := by
  pointwise [val_main_v121, val_main_v120, val_main_call3_v0, val_main_c_8, val_main_v94, val_main_v93]
  exact v50_at x7 x8 x14 b h hf 15

end

theorem m_pad (e : Fin 1) (k : Fin 128) (hk : ¬ k.val < 8) : val_main_v121 x7 x8 x14 (ix3 b e k) = 0 := by
  pointwise [val_main_v121, val_main_v120, val_main_call3_v0, val_main_c_8, val_main_v94, val_main_v93]
  rw [dif_neg hk]
  show (((0#32 : BitVec 32).toInt : ℝ) : EReal) = 0
  simp

/-! ## The convolution -/

theorem mix_conv (t : Fin 16) (k : Fin 1024) : val_main_v118 x0 x1 x2 x3 x4 x5 x6 x7 x8 x9 x10 x11 x12 x13 x14 (ix3 b t ⟨k.val, by omega⟩)
    = x2 (ix3 b t k) *
      ((if h : t.val < 2 then x11 (ix3 b ⟨t.val, h⟩ k) else x1 (ix3 b ⟨t.val - 2, by omega⟩ k) * x0 (ix3 b ⟨t.val - 2, by omega⟩ k)) * x9 (ix2 0 k) +
        (if h : t.val < 1 then x11 (ix3 b 1 k) else x1 (ix3 b ⟨t.val - 1, by omega⟩ k) * x0 (ix3 b ⟨t.val - 1, by omega⟩ k)) * x9 (ix2 1 k) +
        x1 (ix3 b t k) * x0 (ix3 b t k) * x9 (ix2 2 k)) := by
  pointwise [val_main_v118, val_main_v117, val_main_v116, val_main_v115, val_main_v113, val_main_v111, val_main_v110, val_main_v112, val_main_cst_6, val_main_v114, val_main_cst_7, val_main_v109, val_main_v108, val_main_v107, val_main_v106, val_main_v105, val_main_v104, val_main_v103, val_main_v102, val_main_v101, val_main_cst_5, val_main_v100, val_main_v99, val_main_cst_4, val_main_v98, val_main_v97, val_main_cst_3, val_main_v96, val_main_v95, val_main_v22, val_main_v21, val_main_v20, val_main_v19, val_main_v18, val_main_v17, val_main_v16, val_main_v15, val_main_v1, val_main_v0, val_main_v14, val_main_v13, val_main_v12, val_main_v11, val_main_v10, val_main_v9, val_main_v8, val_main_v7, val_main_v6, val_main_v5, val_main_v4, val_main_v3, val_main_v2]
  refine congrArg (fun a : EReal => (x2 (ix3 b t k) : EReal) * a) (congrArg₂ (fun a c : EReal => a + c)
    (congrArg₂ (fun a c : EReal => a + c) rfl (congrArg₂ (fun a c : EReal => a * c) ?_ rfl)) rfl)
  by_cases h1 : t.val < 1
  · rw [dif_pos h1, dif_pos (by omega)]
    exact congrArg (fun z => x11 (ix3 b z k)) (Fin.ext (by dsimp only; omega))
  · rw [dif_neg h1, dif_neg (by omega)]
    have e : (⟨1 + t.val - 2, by omega⟩ : Fin 16) = ⟨t.val - 1, by omega⟩ := Fin.ext (by dsimp only; omega)
    rw [e]

theorem conv_at (r : Fin 2) (k : Fin 1024) : val_main_v23 x0 x1 x11 (ix3 b r k) = x1 (ix3 b ⟨14 + r.val, by omega⟩ k) * x0 (ix3 b ⟨14 + r.val, by omega⟩ k) := by
  pointwise [val_main_v23, val_main_v1, val_main_v0]
  rw [dif_neg (by omega)]
  have e : (⟨16 + r.val - 2, by omega⟩ : Fin 16) = ⟨14 + r.val, by omega⟩ := Fin.ext (by dsimp only; omega)
  rw [e]

end Cert.Mixer.Ref

end
-- ==== Proof.Final.lean ====
/- The five arrays the kernel leaves are the reference's five results. -/
module

public import proofs.«01_k».proof.Proof.OutState
public import proofs.«01_k».proof.Proof.OutMix
public import proofs.«01_k».proof.Proof.Blocks
public import proofs.«01_k».proof.Proof.KerRead
public import proofs.«01_k».proof.Proof.RefRead
public import Idealize.ShloMosaic.Lib.Pipeline.ValueKit
public import Idealize.ShloMosaic.Lib.ReduceAll
public import proofs.«01_k».proof.Defs
public import proofs.«01_k».proof.Proof.Gen.Pre_finite_forget

@[expose] public section

set_option maxRecDepth 16384
set_option maxHeartbeats 1000000

noncomputable section

namespace Cert.Mixer

open Cert.KernelIdeal Cert.KernelIdeal.Gen Idealize.ShloMosaic Idealize.ShloMosaic.Tactic Idealize.ShloMosaic.TcCoe
open Cert.ReferenceIdeal.Read (val_main_v118 val_main_v23 val_main_v87 val_main_v119 val_main_v121)

/-- The forget gates of every row, position and head are numbers. -/
def Forgets (x : Vec Ideal S16x16x8 .f32) : Prop := ∀ b s h, RealVal (x (ix3 b s h))

theorem at15 : ∀ t : Fin cfg0.N, win0_15.index t = ![t.val, 0, 0] := (by decide +kernel : ∀ t : Fin grid0.N, _)
theorem at16 : ∀ t : Fin cfg0.N, win0_16.index t = ![t.val, 0, 0] := (by decide +kernel : ∀ t : Fin grid0.N, _)
theorem at17 : ∀ t : Fin cfg0.N, win0_17.index t = ![t.val, 0, 0, 0] := (by decide +kernel : ∀ t : Fin grid0.N, _)
theorem at18 : ∀ t : Fin cfg0.N, win0_18.index t = ![t.val, 0, 0] := (by decide +kernel : ∀ t : Fin grid0.N, _)
theorem at19 : ∀ t : Fin cfg0.N, win0_19.index t = ![t.val, 0, 0] := (by decide +kernel : ∀ t : Fin grid0.N, _)

theorem emb15 (t : Fin cfg0.N) (s : Fin 16) (k : Fin 2048) : (win0_15.blk t).view.emb (ix3 0 s k) = ix3 (bt t) s k := by blk_ext [at15, bt_val]
theorem emb16 (t : Fin cfg0.N) (s : Fin 2) (k : Fin 1024) : (win0_16.blk t).view.emb (ix3 0 s k) = ix3 (bt t) s k := by blk_ext [at16, bt_val]
theorem emb17 (t : Fin cfg0.N) (h : Fin 8) (j : Fin 64) (d : Fin 128) : (win0_17.blk t).view.emb (ix4 0 h j d) = ix4 (bt t) h j d := by blk_ext [at17, bt_val]
theorem emb18 (t : Fin cfg0.N) (p : Fin 4) (k : Fin 128) : (win0_18.blk t).view.emb (ix3 0 p k) = ix3 (bt t) p k := by blk_ext [at18, bt_val]
theorem emb19 (t : Fin cfg0.N) (k : Fin 128) : (win0_19.blk t).view.emb (ix3 0 0 k) = ix3 (bt t) 0 k := by blk_ext [at19, bt_val]

theorem real_of_abs_lt (v : EReal) (e : Ideal.cmp .olt (max v (-v)) (Ideal.ofBits .f32 0x7F800000#32) = 1#1) : RealVal v := by
  rw [show Ideal.ofBits .f32 0x7F800000#32 = ⊤ by simp [Ideal.ofBits, Ideal.ieee]] at e
  refine ⟨v.toReal, (EReal.coe_toReal ?_ ?_).symm⟩
  · rintro rfl; simp [Ideal.cmp] at e
  · rintro rfl; simp [Ideal.cmp] at e

/-- The precondition, read at every forget gate. -/
theorem forgets_of_pre [Cert.Pre_finite_forget.Facts] (m : (ℓ : Loc nD τ sig) → Buf (Elt Ideal) ℓ) (h : Pre_KernelIdeal_finite_forget m) (c : Dev nD) :
    Forgets (m ((c : Thread nD τ).loc main_arg8)) := fun b s k =>
  real_of_abs_lt _ (Host.reduce_andi_all _ _ _ _ _ (congrFun (h c) (fun a => a.elim0)) (ix3 b s k))

variable (m : (ℓ : Loc nD τ sig) → Buf (Elt Ideal) ℓ) (c : Dev nD) (t : Fin cfg0.N)

/-! ## A head's parts of the blocks, in the arguments -/

section Parts
variable (h : Fin 8)

theorem li_eq : lane (iblk m c 7 t) (hl h) = Ref.LI (m ((c : Thread nD τ).loc main_arg7)) (bt t) h := funext fun s => blk7 m c t s h
theorem lf_eq : lane (iblk m c 8 t) (hl h) = Ref.LF (m ((c : Thread nD τ).loc main_arg8)) (bt t) h := funext fun s => blk8 m c t s h
theorem m0_eq : bM h (iblk m c 14 t) = Ref.M0 (m ((c : Thread nD τ).loc main_arg14)) (bt t) h := blk14 m c t h
theorem q_eq : bQ h (iblk m c 3 t) = Ref.QQ (m ((c : Thread nD τ).loc main_arg3)) (bt t) h := funext fun s => funext fun j => blk3 m c t s _
theorem k_eq : bQ h (iblk m c 4 t) = Ref.QQ (m ((c : Thread nD τ).loc main_arg4)) (bt t) h := funext fun s => funext fun j => blk4 m c t s _
theorem v_eq : bV h (iblk m c 5 t) = Ref.VV (m ((c : Thread nD τ).loc main_arg5)) (bt t) h := funext fun s => funext fun j => blk5 m c t s _
theorem o_eq : bO h (iblk m c 6 t) = Ref.VV (m ((c : Thread nD τ).loc main_arg6)) (bt t) h := funext fun s => funext fun j => blk6 m c t s _
theorem g_eq : bG h (iblk m c 10 t) = Ref.GG (m ((c : Thread nD τ).loc main_arg10)) h := funext fun d => blk10 m c t _
theorem c_eq : bC h (iblk m c 12 t) = Ref.CC (m ((c : Thread nD τ).loc main_arg12)) (bt t) h := funext fun j => funext fun d => blk12 m c t h j d
theorem n_eq : bN h (iblk m c 13 t) = Ref.NN (m ((c : Thread nD τ).loc main_arg13)) (bt t) h := funext fun j => by
  refine (blk13 m c t (pr h) (sd h) j).trans ?_
  have e : (⟨2 * (pr h).val + (sd h).val, by omega⟩ : Fin 8) = h := Fin.ext (by simp only [pr, sd]; omega)
  rw [e]

end Parts

variable (hF : Forgets (m ((c : Thread nD τ).loc main_arg8)))
include hF

theorem lanes_real (j : Fin 128) (s : Fin 16) : RealVal (lane (iblk m c 8 t) j s) := by
  by_cases hj : j.val < 8
  · have e : lane (iblk m c 8 t) j s = _ := blk8 m c t s ⟨j.val, hj⟩
    exact e.symm ▸ hF (bt t) s ⟨j.val, hj⟩
  · have e : lane (iblk m c 8 t) j s = (0 : EReal) := blk8_pad m c t s j hj
    exact e.symm ▸ RealVal.zero

/-! ## Each piece -/

theorem hdo_blk (h : Fin 8) (s : Fin 16) (d : Fin 128) (k : Fin 2048) (hk : k.val = 1024 + (h.val * 128 + d.val)) :
    hdo h (iblk m c 3 t) (iblk m c 4 t) (iblk m c 5 t) (iblk m c 6 t) (iblk m c 7 t) (iblk m c 8 t) (iblk m c 10 t) (iblk m c 12 t) (iblk m c 13 t) (iblk m c 14 t) (ix3 0 s d)
    = val_main_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix3 (bt t) s k) := by
  have ek : k = ⟨1024 + (h.val * 128 + d.val), by omega⟩ := Fin.ext hk
  rw [ek, hdo_at h _ _ _ _ _ _ _ _ _ _ s d (lanes_real m c t hF (hl h)), Ref.mix_head (h := h) (hf := fun s => hF (bt t) s h),
    li_eq, lf_eq, m0_eq, q_eq, k_eq, v_eq, o_eq, g_eq, c_eq, n_eq]

omit hF in
theorem cvo_blk (g : Fin 4) (s : Fin 16) (d : Fin 256) (k : Fin 2048) (hk : k.val = 256 * g.val + d.val) :
    cvo g (iblk m c 0 t) (iblk m c 1 t) (iblk m c 2 t) (iblk m c 9 t) (iblk m c 11 t) (ix3 0 s d) = val_main_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix3 (bt t) s k) := by
  have hb : 256 * g.val + d.val < 1024 := by omega
  have ek : k = ⟨(⟨256 * g.val + d.val, hb⟩ : Fin 1024).val, by omega⟩ := Fin.ext hk
  rw [ek, Ref.mix_conv, cvo_at g _ _ _ _ _ s d ⟨256 * g.val + d.val, hb⟩ rfl]
  simp only [blk0, blk1, blk2, blk9, blk11, tapped]
  rfl

omit hF in
theorem czo_blk (g : Fin 4) (r : Fin 2) (d : Fin 256) (k : Fin 1024) (hk : k.val = 256 * g.val + d.val) :
    czo g (iblk m c 0 t) (iblk m c 1 t) (ix3 0 r d) = val_main_v23 (m ((c : Thread nD τ).loc main_arg0)) (m ((c : Thread nD τ).loc main_arg1)) (m ((c : Thread nD τ).loc main_arg11)) (ix3 (bt t) r k) := by
  have hb : 256 * g.val + d.val < 1024 := by omega
  have ek : k = ⟨256 * g.val + d.val, hb⟩ := Fin.ext hk
  rw [ek, Ref.conv_at, czo_at]
  simp only [blk0, blk1]

theorem cOut_blk (p : Fin 4) (e : Fin 2) (h : Fin 8) (hp : h.val = 2 * p.val + e.val) (j : Fin 64) (d : Fin 128) :
    cOut p (iblk m c 4 t) (iblk m c 5 t) (iblk m c 7 t) (iblk m c 8 t) (iblk m c 12 t) (iblk m c 14 t) (ix2 ⟨64 * e.val + j.val, by omega⟩ ⟨128 * e.val + d.val, by omega⟩)
    = val_main_v87 (m ((c : Thread nD τ).loc main_arg4)) (m ((c : Thread nD τ).loc main_arg5)) (m ((c : Thread nD τ).loc main_arg7)) (m ((c : Thread nD τ).loc main_arg8)) (m ((c : Thread nD τ).loc main_arg12)) (m ((c : Thread nD τ).loc main_arg14)) (ix4 (bt t) h j d) := by
  have eh : (⟨2 * p.val + e.val, by omega⟩ : Fin 8) = h := Fin.ext hp.symm
  have el : (⟨2 * p.val + e.val, by omega⟩ : Fin 128) = hl h := Fin.ext hp.symm
  have eq : (⟨128 * p.val + 64 * e.val + j.val, by omega⟩ : Fin 512) = ⟨h.val * 64 + j.val, by omega⟩ := Fin.ext (by dsimp only; omega)
  have ev : (⟨256 * p.val + 128 * e.val + d.val, by omega⟩ : Fin 1024) = ⟨h.val * 128 + d.val, by omega⟩ := Fin.ext (by dsimp only; omega)
  rw [Ref.c_at (h := h) (hf := fun s => hF (bt t) s h), cOut_at, eh, el, eq, ev, gI_at _ _ _ _ (lanes_real m c t hF (hl h))]
  simp only [gS_at _ _ _ _ _ (lanes_real m c t hF (hl h)), cNew, key]
  rw [← li_eq, ← lf_eq, ← m0_eq, ← k_eq, ← v_eq, ← c_eq]
  refine congrArg (fun a : EReal => _ + a) (Finset.sum_congr rfl fun s _ => ?_)
  exact congrArg (fun a : EReal => a * _) (mul_comm _ _)

theorem nOut_blk (p : Fin 4) (k : Fin 128) :
    nOut p (iblk m c 4 t) (iblk m c 7 t) (iblk m c 8 t) (iblk m c 13 t) (iblk m c 14 t) (ix2 0 k)
    = val_main_v119 (m ((c : Thread nD τ).loc main_arg4)) (m ((c : Thread nD τ).loc main_arg7)) (m ((c : Thread nD τ).loc main_arg8)) (m ((c : Thread nD τ).loc main_arg13)) (m ((c : Thread nD τ).loc main_arg14)) (ix3 (bt t) p k) := by
  obtain ⟨e, j, rfl⟩ : ∃ (e : Fin 2) (j : Fin 64), k = ⟨64 * e.val + j.val, by omega⟩ :=
    ⟨⟨k.val / 64, by omega⟩, ⟨k.val % 64, by omega⟩, Fin.ext (by dsimp only; omega)⟩
  obtain ⟨h, hp⟩ : ∃ h : Fin 8, h.val = 2 * p.val + e.val := ⟨⟨2 * p.val + e.val, by omega⟩, rfl⟩
  have el : (⟨2 * p.val + e.val, by omega⟩ : Fin 128) = hl h := Fin.ext hp.symm
  have eq : (⟨128 * p.val + 64 * e.val + j.val, by omega⟩ : Fin 512) = ⟨h.val * 64 + j.val, by omega⟩ := Fin.ext (by dsimp only; omega)
  have ek : (⟨64 * e.val + j.val, by omega⟩ : Fin 128) = ⟨e.val * 64 + j.val, by omega⟩ := Fin.ext (by dsimp only; omega)
  have en : (⟨64 * e.val + j.val, by omega⟩ : Fin 128) = ⟨64 * (sd h).val + j.val, by omega⟩ := Fin.ext (by simp only [sd]; omega)
  have ep : p = pr h := Fin.ext (by simp only [pr]; omega)
  have r := Ref.n_at (h := h) (hf := fun s => hF (bt t) s h) (m ((c : Thread nD τ).loc main_arg4)) (m ((c : Thread nD τ).loc main_arg7)) (m ((c : Thread nD τ).loc main_arg8)) (m ((c : Thread nD τ).loc main_arg13)) (m ((c : Thread nD τ).loc main_arg14)) (b := bt t) p e j (by omega)
  rw [← ek] at r
  rw [r, nOut_at, el, eq, gI_at _ _ _ _ (lanes_real m c t hF (hl h))]
  simp only [gS_at _ _ _ _ _ (lanes_real m c t hF (hl h)), nNew, key]
  rw [← li_eq, ← lf_eq, ← m0_eq, ← k_eq, ← n_eq]
  refine congrArg₂ (fun a b : EReal => a + b) (congrArg (fun a : EReal => _ * a)
    (congrArg (iblk m c 13 t) (congrArg₂ (fun (a : Fin 4) (b : Fin 128) => ix3 (n0 := 1) 0 a b) ep en))) (Finset.sum_congr rfl fun s _ => ?_)
  exact mul_comm _ _

theorem gN_blk (k : Fin 128) : gN (iblk m c 7 t) (iblk m c 8 t) (iblk m c 14 t) (ix2 0 k) = val_main_v121 (m ((c : Thread nD τ).loc main_arg7)) (m ((c : Thread nD τ).loc main_arg8)) (m ((c : Thread nD τ).loc main_arg14)) (ix3 (bt t) 0 k) := by
  rw [gN_at _ _ _ _ (lanes_real m c t hF k)]
  by_cases hk : k.val < 8
  · have r := Ref.m_at (h := ⟨k.val, hk⟩) (hf := fun s => hF (bt t) s ⟨k.val, hk⟩) (m ((c : Thread nD τ).loc main_arg7)) (m ((c : Thread nD τ).loc main_arg8)) (m ((c : Thread nD τ).loc main_arg14)) (b := bt t) 0
    refine Eq.trans ?_ r.symm
    rw [← li_eq, ← lf_eq, ← m0_eq]
  · rw [Ref.m_pad _ _ _ _ _ _ hk]
    have e1 : lane (iblk m c 7 t) k = fun _ => (0 : EReal) := funext fun s => blk7_pad m c t s k hk
    have e2 : lane (iblk m c 8 t) k = fun _ => (0 : EReal) := funext fun s => blk8_pad m c t s k hk
    have e3 := blk14_pad m c t k hk
    rw [e1, e2, e3]
    simp only [stab, cum, top, ite_self, Finset.sum_const_zero, sub_zero, zero_add]
    refine max_eq_left (Finset.sup_le fun b _ => ?_)
    split
    · exact le_rfl
    · exact bot_le

/-! ## Each piece, at an index of its rectangle -/

theorem hdo_pc (h : Fin 8) (o : Nat) (ho : o = 1024 + h.val * 128) (x : S1x16x128.Idx) (s : Fin 16) (k : Fin 2048)
    (hs : s.val = (x 1).val) (hk : k.val = o + (x 2).val) :
    hdo h (iblk m c 3 t) (iblk m c 4 t) (iblk m c 5 t) (iblk m c 6 t) (iblk m c 7 t) (iblk m c 8 t) (iblk m c 10 t) (iblk m c 12 t) (iblk m c 13 t) (iblk m c 14 t) x = val_main_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix3 (bt t) s k) := by
  obtain rfl : s = x 1 := Fin.ext hs
  exact (congrArg _ (eq_ix3 x)).trans ((congrArg (fun a : Fin 1 => hdo h (iblk m c 3 t) (iblk m c 4 t) (iblk m c 5 t) (iblk m c 6 t) (iblk m c 7 t) (iblk m c 8 t) (iblk m c 10 t) (iblk m c 12 t) (iblk m c 13 t) (iblk m c 14 t) (ix3 a (x 1) (x 2))) (Subsingleton.elim _ _)).trans
    (hdo_blk m c t hF h (x 1) (x 2) k (by omega)))

omit hF in
theorem cvo_pc (g : Fin 4) (o : Nat) (ho : o = 256 * g.val) (x : S1x16x256.Idx) (s : Fin 16) (k : Fin 2048)
    (hs : s.val = (x 1).val) (hk : k.val = o + (x 2).val) :
    cvo g (iblk m c 0 t) (iblk m c 1 t) (iblk m c 2 t) (iblk m c 9 t) (iblk m c 11 t) x = val_main_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix3 (bt t) s k) := by
  obtain rfl : s = x 1 := Fin.ext hs
  exact (congrArg _ (eq_ix3 x)).trans ((congrArg (fun a : Fin 1 => cvo g (iblk m c 0 t) (iblk m c 1 t) (iblk m c 2 t) (iblk m c 9 t) (iblk m c 11 t) (ix3 a (x 1) (x 2))) (Subsingleton.elim _ _)).trans
    (cvo_blk m c t g (x 1) (x 2) k (by omega)))

omit hF in
theorem czo_pc (g : Fin 4) (o : Nat) (ho : o = 256 * g.val) (x : S1x2x256.Idx) (s : Fin 2) (k : Fin 1024)
    (hs : s.val = (x 1).val) (hk : k.val = o + (x 2).val) :
    czo g (iblk m c 0 t) (iblk m c 1 t) x = val_main_v23 (m ((c : Thread nD τ).loc main_arg0)) (m ((c : Thread nD τ).loc main_arg1)) (m ((c : Thread nD τ).loc main_arg11)) (ix3 (bt t) s k) := by
  obtain rfl : s = x 1 := Fin.ext hs
  exact (congrArg _ (eq_ix3 x)).trans ((congrArg (fun a : Fin 1 => czo g (iblk m c 0 t) (iblk m c 1 t) (ix3 a (x 1) (x 2))) (Subsingleton.elim _ _)).trans
    (czo_blk m c t g (x 1) (x 2) k (by omega)))

omit hF in
theorem pay4_at (v : Vec Ideal S128x256 .f32) (a e : Fin 1) (j : Fin 64) (d : Fin 128) :
    k0_pay4 v (ix4 a e j d) = v (ix2 ⟨64 * (0 : Fin 2).val + j.val, by omega⟩ ⟨128 * (0 : Fin 2).val + d.val, by omega⟩) := by
  pointwise [k0_pay4]

omit hF in
theorem pay5_at (v : Vec Ideal S128x256 .f32) (a e : Fin 1) (j : Fin 64) (d : Fin 128) :
    k0_pay5 v (ix4 a e j d) = v (ix2 ⟨64 * (1 : Fin 2).val + j.val, by omega⟩ ⟨128 * (1 : Fin 2).val + d.val, by omega⟩) := by
  pointwise [k0_pay5]

theorem even_pc (p : Fin 4) (o : Nat) (ho : o = 2 * p.val) (x : S1x1x64x128.Idx) (h : Fin 8) (j : Fin 64) (d : Fin 128)
    (hh : h.val = o + (x 1).val) (hj : j.val = (x 2).val) (hd : d.val = (x 3).val) :
    k0_pay4 (cOut p (iblk m c 4 t) (iblk m c 5 t) (iblk m c 7 t) (iblk m c 8 t) (iblk m c 12 t) (iblk m c 14 t)) x = val_main_v87 (m ((c : Thread nD τ).loc main_arg4)) (m ((c : Thread nD τ).loc main_arg5)) (m ((c : Thread nD τ).loc main_arg7)) (m ((c : Thread nD τ).loc main_arg8)) (m ((c : Thread nD τ).loc main_arg12)) (m ((c : Thread nD τ).loc main_arg14)) (ix4 (bt t) h j d) := by
  obtain rfl : j = x 2 := Fin.ext hj
  obtain rfl : d = x 3 := Fin.ext hd
  have h1 : (x 1).val = 0 := Nat.lt_one_iff.mp (x 1).isLt
  exact (congrArg _ (eq_ix4 x)).trans ((pay4_at _ _ _ _ _).trans (cOut_blk m c t hF p 0 h (by rw [hh, ho, h1]; rfl) (x 2) (x 3)))

theorem odd_pc (p : Fin 4) (o : Nat) (ho : o = 2 * p.val + 1) (x : S1x1x64x128.Idx) (h : Fin 8) (j : Fin 64) (d : Fin 128)
    (hh : h.val = o + (x 1).val) (hj : j.val = (x 2).val) (hd : d.val = (x 3).val) :
    k0_pay5 (cOut p (iblk m c 4 t) (iblk m c 5 t) (iblk m c 7 t) (iblk m c 8 t) (iblk m c 12 t) (iblk m c 14 t)) x = val_main_v87 (m ((c : Thread nD τ).loc main_arg4)) (m ((c : Thread nD τ).loc main_arg5)) (m ((c : Thread nD τ).loc main_arg7)) (m ((c : Thread nD τ).loc main_arg8)) (m ((c : Thread nD τ).loc main_arg12)) (m ((c : Thread nD τ).loc main_arg14)) (ix4 (bt t) h j d) := by
  obtain rfl : j = x 2 := Fin.ext hj
  obtain rfl : d = x 3 := Fin.ext hd
  have h1 : (x 1).val = 0 := Nat.lt_one_iff.mp (x 1).isLt
  exact (congrArg _ (eq_ix4 x)).trans ((pay5_at _ _ _ _ _).trans (cOut_blk m c t hF p 1 h (by rw [hh, ho, h1]; rfl) (x 2) (x 3)))

omit hF in
theorem pay3_at (v : Vec Ideal S1x128 .f32) (a e : Fin 1) (k : Fin 128) : k0_pay3 v (ix3 a e k) = v (ix2 0 k) := by
  pointwise [k0_pay3]

omit hF in
theorem pay7_at (v : Vec Ideal S1x128 .f32) (a e : Fin 1) (k : Fin 128) : k0_pay7 v (ix3 a e k) = v (ix2 0 k) := by
  pointwise [k0_pay7]

theorem nrm_pc (p : Fin 4) (o : Nat) (ho : o = p.val) (x : S1x1x128.Idx) (q : Fin 4) (k : Fin 128)
    (hq : q.val = o + (x 1).val) (hk : k.val = (x 2).val) :
    k0_pay3 (nOut p (iblk m c 4 t) (iblk m c 7 t) (iblk m c 8 t) (iblk m c 13 t) (iblk m c 14 t)) x = val_main_v119 (m ((c : Thread nD τ).loc main_arg4)) (m ((c : Thread nD τ).loc main_arg7)) (m ((c : Thread nD τ).loc main_arg8)) (m ((c : Thread nD τ).loc main_arg13)) (m ((c : Thread nD τ).loc main_arg14)) (ix3 (bt t) q k) := by
  obtain rfl : k = x 2 := Fin.ext hk
  have h1 : (x 1).val = 0 := Nat.lt_one_iff.mp (x 1).isLt
  obtain rfl : q = p := Fin.ext (by rw [hq, ho, h1]; rfl)
  exact (congrArg _ (eq_ix3 x)).trans ((pay3_at _ _ _ _).trans (nOut_blk m c t hF q (x 2)))

theorem stb_pc (x : S1x1x128.Idx) (k : Fin 128) (hk : k.val = (x 2).val) :
    k0_pay7 (gN (iblk m c 7 t) (iblk m c 8 t) (iblk m c 14 t)) x = val_main_v121 (m ((c : Thread nD τ).loc main_arg7)) (m ((c : Thread nD τ).loc main_arg8)) (m ((c : Thread nD τ).loc main_arg14)) (ix3 (bt t) 0 k) := by
  obtain rfl : k = x 2 := Fin.ext hk
  exact (congrArg _ (eq_ix3 x)).trans ((pay7_at _ _ _ _).trans (gN_blk m c t hF (x 2)))

/-! ## The arrays -/

omit hF in
/-- The twelve rectangles of the mix block cover it. -/
theorem cover15 (a7 a6 a5 a4 a3 a2 a1 a0 : Vec Ideal S1x16x128 .bf16) (b3 b2 b1 b0 : Vec Ideal S1x16x256 .bf16) (y : S1x16x2048.Idx) : ∃ p ∈ ([
    ⟨Rect.unit ![0, 0, 1920] ![1, 16, 128] (by decide), a7⟩,
    ⟨Rect.unit ![0, 0, 1792] ![1, 16, 128] (by decide), a6⟩,
    ⟨Rect.unit ![0, 0, 1664] ![1, 16, 128] (by decide), a5⟩,
    ⟨Rect.unit ![0, 0, 1536] ![1, 16, 128] (by decide), a4⟩,
    ⟨Rect.unit ![0, 0, 1408] ![1, 16, 128] (by decide), a3⟩,
    ⟨Rect.unit ![0, 0, 1280] ![1, 16, 128] (by decide), a2⟩,
    ⟨Rect.unit ![0, 0, 1152] ![1, 16, 128] (by decide), a1⟩,
    ⟨Rect.unit ![0, 0, 1024] ![1, 16, 128] (by decide), a0⟩,
    ⟨Rect.unit ![0, 0, 768] ![1, 16, 256] (by decide), b3⟩,
    ⟨Rect.unit ![0, 0, 512] ![1, 16, 256] (by decide), b2⟩,
    ⟨Rect.unit ![0, 0, 256] ![1, 16, 256] (by decide), b1⟩,
    ⟨Rect.unit ![0, 0, 0] ![1, 16, 256] (by decide), b0⟩] : List (View.Piece (Elt Ideal) S1x16x2048 .bf16)), y ∈ p.1.set :=
  View.cover_of_tiledBy _ ![1, 16, 128] (by sl_kernel_rfl) y

theorem final15 : (dats m 0 c).arrAt 15 cfg0.N = val_main_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [after0_15, out15]
  obtain ⟨s, k, rfl⟩ : ∃ (s : Fin 16) (k : Fin 2048), y = ix3 0 s k := ⟨y 1, y 2, (eq_ix3 y).trans (congrArg (fun a : Fin 1 => ix3 a (y 1) (y 2)) (Subsingleton.elim _ _))⟩
  rw [emb15]
  canon_tiles x h using cover15 _ _ _ _ _ _ _ _ _ _ _ _ _
  · exact hdo_pc m c t hF 7 _ (by rfl) x s k h1 h2
  · exact hdo_pc m c t hF 6 _ (by rfl) x s k h1 h2
  · exact hdo_pc m c t hF 5 _ (by rfl) x s k h1 h2
  · exact hdo_pc m c t hF 4 _ (by rfl) x s k h1 h2
  · exact hdo_pc m c t hF 3 _ (by rfl) x s k h1 h2
  · exact hdo_pc m c t hF 2 _ (by rfl) x s k h1 h2
  · exact hdo_pc m c t hF 1 _ (by rfl) x s k h1 h2
  · exact hdo_pc m c t hF 0 _ (by rfl) x s k h1 h2
  · exact cvo_pc m c t 3 _ (by rfl) x s k h1 h2
  · exact cvo_pc m c t 2 _ (by rfl) x s k h1 h2
  · exact cvo_pc m c t 1 _ (by rfl) x s k h1 h2
  · exact cvo_pc m c t 0 _ (by rfl) x s k h1 (h2.trans (Nat.zero_add _).symm)

omit hF in
theorem final16 : (dats m 0 c).arrAt 16 cfg0.N = val_main_v23 (m ((c : Thread nD τ).loc main_arg0)) (m ((c : Thread nD τ).loc main_arg1)) (m ((c : Thread nD τ).loc main_arg11)) := by
  refine (dats m 0 c).arrAt_eq_of_covers 16 _ (by decide +kernel) fun t _ y => ?_
  blk_simp
  rw [after0_16, out16]
  obtain ⟨s, k, rfl⟩ : ∃ (s : Fin 2) (k : Fin 1024), y = ix3 0 s k := ⟨y 1, y 2, (eq_ix3 y).trans (congrArg (fun a : Fin 1 => ix3 a (y 1) (y 2)) (Subsingleton.elim _ _))⟩
  rw [emb16]
  canon_tiles x h
  · exact czo_pc m c t 3 _ (by rfl) x s k h1 h2
  · exact czo_pc m c t 2 _ (by rfl) x s k h1 h2
  · exact czo_pc m c t 1 _ (by rfl) x s k h1 h2
  · exact czo_pc m c t 0 _ (by rfl) x s k h1 (h2.trans (Nat.zero_add _).symm)

theorem final17 : (dats m 0 c).arrAt 17 cfg0.N = val_main_v87 (m ((c : Thread nD τ).loc main_arg4)) (m ((c : Thread nD τ).loc main_arg5)) (m ((c : Thread nD τ).loc main_arg7)) (m ((c : Thread nD τ).loc main_arg8)) (m ((c : Thread nD τ).loc main_arg12)) (m ((c : Thread nD τ).loc main_arg14)) := by
  refine (dats m 0 c).arrAt_eq_of_covers 17 _ (by decide +kernel) fun t _ y => ?_
  blk_simp
  rw [after0_17, out17]
  obtain ⟨h, j, d, rfl⟩ : ∃ (h : Fin 8) (j : Fin 64) (d : Fin 128), y = ix4 0 h j d := ⟨y 1, y 2, y 3, (eq_ix4 y).trans (congrArg (fun a : Fin 1 => ix4 a (y 1) (y 2) (y 3)) (Subsingleton.elim _ _))⟩
  rw [emb17]
  canon_tiles x h
  · exact odd_pc m c t hF 3 _ (by rfl) x h j d h1 h2 h3
  · exact even_pc m c t hF 3 _ (by rfl) x h j d h1 h2 h3
  · exact odd_pc m c t hF 2 _ (by rfl) x h j d h1 h2 h3
  · exact even_pc m c t hF 2 _ (by rfl) x h j d h1 h2 h3
  · exact odd_pc m c t hF 1 _ (by rfl) x h j d h1 h2 h3
  · exact even_pc m c t hF 1 _ (by rfl) x h j d h1 h2 h3
  · exact odd_pc m c t hF 0 _ (by rfl) x h j d h1 h2 h3
  · exact even_pc m c t hF 0 _ (by rfl) x h j d (h1.trans (Nat.zero_add _).symm) h2 h3

theorem final18 : (dats m 0 c).arrAt 18 cfg0.N = val_main_v119 (m ((c : Thread nD τ).loc main_arg4)) (m ((c : Thread nD τ).loc main_arg7)) (m ((c : Thread nD τ).loc main_arg8)) (m ((c : Thread nD τ).loc main_arg13)) (m ((c : Thread nD τ).loc main_arg14)) := by
  refine (dats m 0 c).arrAt_eq_of_covers 18 _ (by decide +kernel) fun t _ y => ?_
  blk_simp
  rw [after0_18, out18]
  obtain ⟨s, k, rfl⟩ : ∃ (s : Fin 4) (k : Fin 128), y = ix3 0 s k := ⟨y 1, y 2, (eq_ix3 y).trans (congrArg (fun a : Fin 1 => ix3 a (y 1) (y 2)) (Subsingleton.elim _ _))⟩
  rw [emb18]
  canon_tiles x h
  · exact nrm_pc m c t hF 3 _ (by rfl) x s k h1 h2
  · exact nrm_pc m c t hF 2 _ (by rfl) x s k h1 h2
  · exact nrm_pc m c t hF 1 _ (by rfl) x s k h1 h2
  · exact nrm_pc m c t hF 0 _ (by rfl) x s k (h1.trans (Nat.zero_add _).symm) h2

theorem final19 : (dats m 0 c).arrAt 19 cfg0.N = val_main_v121 (m ((c : Thread nD τ).loc main_arg7)) (m ((c : Thread nD τ).loc main_arg8)) (m ((c : Thread nD τ).loc main_arg14)) := by
  refine (dats m 0 c).arrAt_eq_of_covers 19 _ (by decide +kernel) fun t _ y => ?_
  blk_simp
  rw [after0_19, out19]
  obtain ⟨k, rfl⟩ : ∃ k : Fin 128, y = ix3 0 0 k := ⟨y 2, (eq_ix3 y).trans (congrArg₂ (fun (a b : Fin 1) => ix3 a b (y 2)) (Subsingleton.elim _ _) (Subsingleton.elim _ _))⟩
  rw [emb19]
  canon_tiles x h
  exact stb_pc m c t hF x k h2

end Cert.Mixer

end
-- ==== Proof.Algebra.lean ====
/- The mixer kernel and the plain mixer end with the same five results. -/
module

public import proofs.«01_k».proof.Proof.Final
public import proofs.«01_k».proof.Proof.Gen.ReferenceIdeal.Run

@[expose] public section

set_option maxRecDepth 16384
set_option maxHeartbeats 1000000

noncomputable section

namespace Cert.Mixer

open Idealize.ShloMosaic Idealize.SL.Sem

/-- The plain mixer's run leaves its arguments, and no semaphore counts. -/
theorem frame_ref : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem algebraic : Cert.algebraic_KernelIdeal_ReferenceIdeal_pre_finite_forget := by
  intro m ρ m' ρ' hpre hagree
  refine ⟨fun c => (Cert.KernelIdeal.Gen.dats m 0 c).arrAt 15 Cert.KernelIdeal.cfg0.N, fun c => (Cert.KernelIdeal.Gen.dats m 0 c).arrAt 16 Cert.KernelIdeal.cfg0.N,
    fun c => (Cert.KernelIdeal.Gen.dats m 0 c).arrAt 17 Cert.KernelIdeal.cfg0.N, fun c => (Cert.KernelIdeal.Gen.dats m 0 c).arrAt 18 Cert.KernelIdeal.cfg0.N,
    fun c => (Cert.KernelIdeal.Gen.dats m 0 c).arrAt 19 Cert.KernelIdeal.cfg0.N, Cert.KernelIdeal.Value.run_blocks m ρ, ?_⟩
  refine (θ_run Cert.ReferenceIdeal.defs _ _).mono (fun _ h c => ?_) (Cert.ReferenceIdeal.Value.run (F := Ideal) m' ρ')
  obtain ⟨h1, h2, h3, h4, h5, hk⟩ := h c
  have hF := forgets_of_pre m hpre c
  obtain ⟨a0, a1, a2, a3, a4, a5, a6, a7, a8, a9, a10, a11, a12, a13, a14⟩ := hagree c
  refine ⟨h1.trans ?_, h2.trans ?_, h3.trans ?_, h4.trans ?_, h5.trans ?_, hk⟩
  · refine (Cert.ReferenceIdeal.Read.val_main_v118_eq m' c).trans ?_
    rw [a0, a1, a2, a3, a4, a5, a6, a7, a8, a9, a10, a11, a12, a13, a14]
    exact (final15 m c hF).symm
  · refine (Cert.ReferenceIdeal.Read.val_main_v23_eq _ _ _).trans ?_
    rw [a0, a1, a11]
    exact (final16 m c).symm
  · refine (Cert.ReferenceIdeal.Read.val_main_v87_eq m' c).trans ?_
    rw [a4, a5, a7, a8, a12, a14]
    exact (final17 m c hF).symm
  · refine (Cert.ReferenceIdeal.Read.val_main_v119_eq m' c).trans ?_
    rw [a4, a7, a8, a13, a14]
    exact (final18 m c hF).symm
  · refine (Cert.ReferenceIdeal.Read.val_main_v121_eq _ _ _).trans ?_
    rw [a7, a8, a14]
    exact (final19 m c hF).symm

end Cert.Mixer

end
-- ==== Proof.ProjRows.lean ====
/- What one grid point of the projection leaves in its four blocks: the normalised rows, held in the scratch buffer, times
   the slices of the weights. -/
module

public import proofs.«01_k».proof.Proof.Gen.Kernel2Ideal.Frame
public import Idealize.ShloMosaic.Lib.Pipeline.ValueKit
public import Idealize.ShloMosaic.Lib.Pointwise
public import Idealize.ShloMosaic.Lib.KernelVsHost

@[expose] public section

set_option maxRecDepth 16384

noncomputable section

namespace Cert.Proj

open Cert.Kernel2Ideal Cert.Kernel2Ideal.Gen Idealize.ShloMosaic Idealize.ShloMosaic.Tactic Idealize.ShloMosaic.TcCoe

/-! ## A normalised row, and the payloads at an index -/

/-- A row divided by the root of its mean square (with the small constant added under the root), times the gains. -/
def nrm (a g : Fin 2048 → EReal) (j : Fin 2048) : EReal :=
  a j * Ideal.rsqrt (Ideal.div (∑ k, a k * a k) (Ideal.ofBits .f32 0x45000000#32) + Ideal.ofBits .f32 0x358637BD#32) * g j

/-- The 256 normalised rows of a block. -/
def xh (x0 : Vec Ideal S256x2048 .f32) (x1 : Vec Ideal S1x2048 .f32) : FVec Ideal S256x2048 .bf16 := fun y =>
  nrm (fun k => x0 (ix2 (y 0) k)) (fun k => x1 (ix2 0 k)) (y 1)

theorem pay6_at (v : Vec Ideal S32x2048 .f32) (w : Vec Ideal S1x2048 .f32) (s : Fin 32) (j : Fin 2048) :
    k0_pay6 v w (ix2 s j) = nrm (fun k => v (ix2 s k)) (fun k => w (ix2 0 k)) j := by
  pointwise [k0_pay6, nrm]

variable (v : Vec Ideal S256x2048 .bf16) (w : Vec Ideal S2048x6160 .bf16) (wg : Vec Ideal S2048x128 .bf16) (bg : Vec Ideal S1x128 .f32)

theorem pay11_at (r : Fin 256) (l : Fin 1024) :
    @Eq EReal (k0_pay11 v (View.ld w (Rect.unit (s := S2048x6160) ![0, 0] S2048x1024.size inb_S2048x6160_S2048x1024_0_0)) (ix2 r l)) (∑ k : Fin 2048, (v (ix2 r k) : EReal) * w (ix2 k ⟨0 + l.val, by omega⟩)) := by
  pointwise [k0_pay11]

theorem pay1_at (r : Fin 256) (l : Fin 1024) :
    @Eq EReal (k0_pay1 v (View.ld w (Rect.unit (s := S2048x6160) ![0, 1024] ![2048, 1024] inb_S2048x6160_S2048x1024_0_1024)) (ix2 r l)) (∑ k : Fin 2048, (v (ix2 r k) : EReal) * w (ix2 k ⟨1024 + l.val, by omega⟩)) := by
  pointwise [k0_pay1]

theorem pay2_at (r : Fin 256) (l : Fin 1024) :
    @Eq EReal (k0_pay2 v (View.ld w (Rect.unit (s := S2048x6160) ![0, 2048] ![2048, 1024] inb_S2048x6160_S2048x1024_0_2048)) (ix2 r l)) (∑ k : Fin 2048, (v (ix2 r k) : EReal) * w (ix2 k ⟨2048 + l.val, by omega⟩)) := by
  pointwise [k0_pay2]

theorem pay3_at (r : Fin 256) (l : Fin 1024) :
    @Eq EReal (k0_pay3 v (View.ld w (Rect.unit (s := S2048x6160) ![0, 5120] ![2048, 1024] inb_S2048x6160_S2048x1024_0_5120)) (ix2 r l)) (∑ k : Fin 2048, (v (ix2 r k) : EReal) * w (ix2 k ⟨5120 + l.val, by omega⟩)) := by
  pointwise [k0_pay3]

theorem pay4_at (r : Fin 256) (l : Fin 1024) :
    @Eq EReal (k0_pay4 v (View.ld w (Rect.unit (s := S2048x6160) ![0, 3072] ![2048, 1024] inb_S2048x6160_S2048x1024_0_3072)) (ix2 r l)) (∑ k : Fin 2048, (v (ix2 r k) : EReal) * w (ix2 k ⟨3072 + l.val, by omega⟩)) := by
  pointwise [k0_pay4]

theorem pay5_at (r : Fin 256) (l : Fin 1024) :
    @Eq EReal (k0_pay5 v (View.ld w (Rect.unit (s := S2048x6160) ![0, 4096] ![2048, 1024] inb_S2048x6160_S2048x1024_0_4096)) (ix2 r l)) (∑ k : Fin 2048, (v (ix2 r k) : EReal) * w (ix2 k ⟨4096 + l.val, by omega⟩)) := by
  pointwise [k0_pay5]

/-- A gate's preactivation: a row of the block times a column of the packed gate weights, plus its bias. -/
def gate (r : Fin 256) (l : Fin 128) : EReal := (∑ k : Fin 2048, (v (ix2 r k) : EReal) * wg (ix2 k l)) + bg (ix2 0 l)

theorem pay7_at (r : Fin 256) (l : Fin 128) : @Eq EReal (k0_pay7 v wg bg (ix2 r l)) (gate v wg bg r l) := by
  pointwise [k0_pay7, gate]

/-- The mask word of a lane: one below lane 8. -/
theorem lt_word (l : Fin 128) : IntOp.cmpi .slt (BitVec.ofNat 32 l.val) 8#32 = if l.val < 8 then 1#1 else 0#1 := by
  revert l; decide +kernel

theorem pay9_lo (r : Fin 256) (l : Fin 128) (h : l.val < 8) : @Eq EReal (k0_pay9 v wg bg (ix2 r l)) (gate v wg bg r l) := by
  rw [← pay7_at]
  pointwise [k0_pay9, k0_pay8]
  rw [lt_word, if_pos h]; rfl

theorem pay9_hi (r : Fin 256) (l : Fin 128) (h : ¬ l.val < 8) : @Eq EReal (k0_pay9 v wg bg (ix2 r l)) 0 := by
  pointwise [k0_pay9, k0_pay8]
  rw [lt_word, if_neg h]; rfl

/-- The logarithm of the logistic function, as the kernel computes it. -/
def lsg (g : EReal) : EReal := min g 0 - Ideal.log1p (Ideal.exp (0 - max g (-g)))

theorem pay10_lo (r : Fin 256) (l : Fin 128) (h : l.val < 8) :
    @Eq EReal (k0_pay10 v wg bg (ix2 r l)) (lsg (gate v wg bg r ⟨8 + l.val, by omega⟩)) := by
  have e : (⟨(l.val + 128 - 120) % 128, Nat.mod_lt _ (by decide)⟩ : Fin 128) = ⟨8 + l.val, by omega⟩ := Fin.ext (by show (l.val + 128 - 120) % 128 = 8 + l.val; omega)
  rw [← pay7_at]
  pointwise [k0_pay10, k0_pay8, lsg]
  rw [lt_word, if_pos h, e]; rfl

theorem pay10_hi (r : Fin 256) (l : Fin 128) (h : ¬ l.val < 8) : @Eq EReal (k0_pay10 v wg bg (ix2 r l)) 0 := by
  pointwise [k0_pay10, k0_pay8]
  rw [lt_word, if_neg h]; rfl

/-! ## What the body leaves -/

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6160 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x5120 .f32) (harg6 : arg6.IsWhole) (arg7 : Memref sig .tc .vmem S256x1024 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x2048 .bf16) (harg10 : arg10.IsWhole)
  (x0 : Vec Ideal S256x2048 .f32) (x1 : Vec Ideal S1x2048 .f32) (x2 : Vec Ideal S2048x6160 .bf16) (x3 : Vec Ideal S2048x128 .bf16) (x4 : Vec Ideal S1x128 .f32)

theorem trip_pieces (k : Fin k0_t1_loop.trips) :
    (trip_k0_t1 (F := Ideal) Variants.none c none i arg1 harg1 arg2 harg2 arg3 harg3 arg4 harg4 arg5 harg5 arg6 harg6 arg7 harg7 arg8 harg8 arg9 harg9 arg10 harg10 (harg1.unread x0) (harg2.unread x1) k).1
    = [⟨Rect.unit (s := S256x2048) (k0_off1 k) S32x2048.size (k0_off1_inb k), k0_pay6 (View.ld x0 (Rect.unit (s := S256x2048) (k0_off1 k) S32x2048.size (k0_off1_inb k))) x1⟩] := by
  unfold trip_k0_t1
  simp only [View.readAt_eq_ld, Memref.IsWhole.read_unread]
  rw [show View.ld x1 (Rect.unit (s := S1x2048) ![0, 0] ![1, 2048] inb_S1x2048_S1x2048_0_0) = x1 from View.ld_unit_lit (S := S1x2048) inb_S1x2048_S1x2048_0_0 x1 (by decide)]

theorem strip (k : Fin k0_t1_loop.trips) (x : S32x2048.Idx) :
    k0_pay6 (View.ld x0 (Rect.unit (s := S256x2048) (k0_off1 k) S32x2048.size (k0_off1_inb k))) x1 x
      = xh x0 x1 ((Rect.unit (s := S256x2048) (k0_off1 k) S32x2048.size (k0_off1_inb k)).emb x) := by
  obtain ⟨s, j, rfl⟩ : ∃ s j, x = ix2 s j := ⟨x 0, x 1, eq_ix2 x⟩
  rw [pay6_at]
  unfold xh
  have e1 : ((Rect.unit (s := S256x2048) (k0_off1 k) S32x2048.size (k0_off1_inb k)).emb (ix2 s j)) 1 = j := Fin.ext (by
    rw [Rect.emb_apply]; show 0 + 1 * j.val = j.val; omega)
  have e0 (q : Fin 2048) : (Rect.unit (s := S256x2048) (k0_off1 k) S32x2048.size (k0_off1_inb k)).idx (ix2 s q)
      = ix2 (((Rect.unit (s := S256x2048) (k0_off1 k) S32x2048.size (k0_off1_inb k)).emb (ix2 s j)) 0) q := funext fun a => Fin.ext (by
    match a with
    | ⟨0, _⟩ => rfl
    | ⟨1, _⟩ => show 0 + 1 * q.val = q.val; omega)
  rw [e1]
  exact congrArg (fun f => nrm f _ j) (funext fun q => congrArg x0 (e0 q))

theorem strips (n : Nat) (hn : n ≤ k0_t1_loop.trips) :
    ∀ p ∈ pb_k0_t1 (F := Ideal) Variants.none c none i arg1 harg1 arg2 harg2 arg3 harg3 arg4 harg4 arg5 harg5 arg6 harg6 arg7 harg7 arg8 harg8 arg9 harg9 arg10 harg10 (harg1.unread x0) (harg2.unread x1) n,
      ∀ x : p.1.shape.Idx, p.2 x = xh x0 x1 (p.1.emb x) := by
  induction n with
  | zero => intro p hp; unfold pb_k0_t1 at hp; exact absurd hp List.not_mem_nil
  | succ n ih =>
    intro p hp
    rw [pb_k0_t1_succ _ _ _ _ _ _ _ _ _ _ _ _ _ _ _ _ _ _ _ _ _ _ _ _ _ _ ⟨n, hn⟩, List.mem_append] at hp
    rcases hp with hp | hp
    · rw [tripL_k0_t1, trip_pieces] at hp
      obtain rfl := List.mem_singleton.mp hp
      exact strip x0 x1 ⟨n, hn⟩
    · exact ih (Nat.le_of_succ_le hn) p hp

/-- The scratch buffer, read back after the loop, is the block's normalised rows. -/
theorem scr : arg10.view.readCov (pb_k0_t1 (F := Ideal) Variants.none c none i arg1 harg1 arg2 harg2 arg3 harg3 arg4 harg4 arg5 harg5 arg6 harg6 arg7 harg7 arg8 harg8 arg9 harg9 arg10 harg10 (harg1.unread x0) (harg2.unread x1) (Scf.trips k0_t1_loop.lb k0_t1_loop.ub k0_t1_loop.st))
      (Rect.unit ![0, 0] S256x2048.size inb_S256x2048_S256x2048_0_0).toLoadRect = xh x0 x1 := by
  rw [View.readCov_eq_canon']
  funext j
  have hc := View.cover_of_tiledL (pb_k0_t1 (F := Ideal) Variants.none c none i arg1 harg1 arg2 harg2 arg3 harg3 arg4 harg4 arg5 harg5 arg6 harg6 arg7 harg7 arg8 harg8 arg9 harg9 arg10 harg10 (harg1.unread x0) (harg2.unread x1) (Scf.trips k0_t1_loop.lb k0_t1_loop.ub k0_t1_loop.st)) S32x2048.size (by sl_kernel_rfl)
  have e : (Rect.unit (s := S256x2048) ![0, 0] S256x2048.size inb_S256x2048_S256x2048_0_0).toLoadRect.idx j = j := funext fun a => Fin.ext (by
    match a with
    | ⟨0, _⟩ => show 0 + 1 * (j 0).val = (j 0).val; omega
    | ⟨1, _⟩ => show 0 + 1 * (j 1).val = (j 1).val; omega)
  refine (View.canon_apply_of_pieces (xh x0 x1) _ ?_ _ (hc _)).trans (congrArg (xh x0 x1) e)
  exact strips c i arg1 harg1 arg2 harg2 arg3 harg3 arg4 harg4 arg5 harg5 arg6 harg6 arg7 harg7 arg8 harg8 arg9 harg9 arg10 harg10 x0 x1 _ le_rfl

theorem out5 : out0_A_5 c i arg1 harg1 arg2 harg2 arg3 harg3 arg4 harg4 arg5 harg5 arg6 harg6 arg7 harg7 arg8 harg8 arg9 harg9 arg10 harg10 x0 x1 x2 x3 x4 = View.canon [⟨Rect.unit (s := S256x5120) ![0, 4096] ![256, 1024] inb_S256x5120_S256x1024_0_4096, k0_pay4 (xh x0 x1) (View.ld x2 (Rect.unit (s := S2048x6160) ![0, 3072] ![2048, 1024] inb_S2048x6160_S2048x1024_0_3072))⟩,
      ⟨Rect.unit (s := S256x5120) ![0, 3072] ![256, 1024] inb_S256x5120_S256x1024_0_3072, k0_pay3 (xh x0 x1) (View.ld x2 (Rect.unit (s := S2048x6160) ![0, 5120] ![2048, 1024] inb_S2048x6160_S2048x1024_0_5120))⟩,
      ⟨Rect.unit (s := S256x5120) ![0, 2048] ![256, 1024] inb_S256x5120_S256x1024_0_2048, k0_pay2 (xh x0 x1) (View.ld x2 (Rect.unit (s := S2048x6160) ![0, 2048] ![2048, 1024] inb_S2048x6160_S2048x1024_0_2048))⟩,
      ⟨Rect.unit (s := S256x5120) ![0, 1024] ![256, 1024] inb_S256x5120_S256x1024_0_1024, k0_pay1 (xh x0 x1) (View.ld x2 (Rect.unit (s := S2048x6160) ![0, 1024] ![2048, 1024] inb_S2048x6160_S2048x1024_0_1024))⟩,
      ⟨Rect.unit (s := S256x5120) ![0, 0] S256x1024.size inb_S256x5120_S256x1024_0_0, k0_pay11 (xh x0 x1) (View.ld x2 (Rect.unit (s := S2048x6160) ![0, 0] S2048x1024.size inb_S2048x6160_S2048x1024_0_0))⟩] := by
  unfold out0_A_5
  rw [View.read_writes_junk_eq_canon]
  frame_open
  rw [scr]
  simp only [View.readAt_eq_ld, Memref.IsWhole.read_unread]

theorem out6 : out0_A_6 c i arg1 harg1 arg2 harg2 arg3 harg3 arg4 harg4 arg5 harg5 arg6 harg6 arg7 harg7 arg8 harg8 arg9 harg9 arg10 harg10 x0 x1 x2 x3 x4 = k0_pay5 (xh x0 x1) (View.ld x2 (Rect.unit (s := S2048x6160) ![0, 4096] ![2048, 1024] inb_S2048x6160_S2048x1024_0_4096)) := by
  unfold out0_A_6
  rw [View.read_writes_junk_eq_canon]
  frame_open
  rw [scr]
  simp only [View.readAt_eq_ld, Memref.IsWhole.read_unread]
  exact View.canon_cons_unit_lit (S := S256x1024) inb_S256x1024_S256x1024_0_0 _ [] (by decide)

theorem out7 : out0_A_7 c i arg1 harg1 arg2 harg2 arg3 harg3 arg4 harg4 arg5 harg5 arg6 harg6 arg7 harg7 arg8 harg8 arg9 harg9 arg10 harg10 x0 x1 x2 x3 x4 = k0_pay9 (xh x0 x1) x3 x4 := by
  unfold out0_A_7
  rw [View.read_writes_junk_eq_canon]
  frame_open
  rw [scr]
  simp only [View.readAt_eq_ld, Memref.IsWhole.read_unread]
  refine (View.canon_cons_unit_lit (S := S256x128) inb_S256x128_S256x128_0_0 _ [] (by decide)).trans ?_
  rw [show View.ld x3 (Rect.unit (s := S2048x128) ![0, 0] ![2048, 128] inb_S2048x128_S2048x128_0_0) = x3 from View.ld_unit_lit (S := S2048x128) inb_S2048x128_S2048x128_0_0 x3 (by decide),
    show View.ld x4 (Rect.unit (s := S1x128) ![0, 0] ![1, 128] inb_S1x128_S1x128_0_0) = x4 from View.ld_unit_lit (S := S1x128) inb_S1x128_S1x128_0_0 x4 (by decide)]

theorem out8 : out0_A_8 c i arg1 harg1 arg2 harg2 arg3 harg3 arg4 harg4 arg5 harg5 arg6 harg6 arg7 harg7 arg8 harg8 arg9 harg9 arg10 harg10 x0 x1 x2 x3 x4 = k0_pay10 (xh x0 x1) x3 x4 := by
  unfold out0_A_8
  rw [View.read_writes_junk_eq_canon]
  frame_open
  rw [scr]
  simp only [View.readAt_eq_ld, Memref.IsWhole.read_unread]
  refine (View.canon_cons_unit_lit (S := S256x128) inb_S256x128_S256x128_0_0 _ [] (by decide)).trans ?_
  rw [show View.ld x3 (Rect.unit (s := S2048x128) ![0, 0] ![2048, 128] inb_S2048x128_S2048x128_0_0) = x3 from View.ld_unit_lit (S := S2048x128) inb_S2048x128_S2048x128_0_0 x3 (by decide),
    show View.ld x4 (Rect.unit (s := S1x128) ![0, 0] ![1, 128] inb_S1x128_S1x128_0_0) = x4 from View.ld_unit_lit (S := S1x128) inb_S1x128_S1x128_0_0 x4 (by decide)]

end Cert.Proj
-- ==== Proof.ProjRef.lean ====
/- The plain projection's four results, read at an index. -/
module

public import proofs.«01_k».proof.Proof.ProjRows
public import proofs.«01_k».proof.Proof.Gen.Reference2Ideal.Read
public import Idealize.ShloMosaic.Lib.Pointwise
public import Idealize.ShloMosaic.Lib.KernelVsHost

@[expose] public section

set_option maxRecDepth 16384

noncomputable section

namespace Cert.Proj

open Cert.Reference2Ideal Cert.Reference2Ideal.Gen Cert.Reference2Ideal.Read Idealize.ShloMosaic Idealize.ShloMosaic.Tactic Idealize.ShloMosaic.TcCoe

/-! ## The logarithm of the logistic function -/

/-- `log (1 + exp (-|g|))` is a number. -/
theorem log_real (g : EReal) : ∃ r : ℝ, Ideal.log1p (Ideal.exp (-max g (-g))) = r := by
  have key (s : ℝ) : ∃ r : ℝ, Ideal.log1p (Ideal.exp (s : EReal)) = r := by
    refine ⟨Real.log (1 + Real.exp s), ?_⟩
    rw [Ideal.exp_coe]
    unfold Ideal.log1p
    rw [show (1 : EReal) + (Real.exp s : EReal) = ((1 + Real.exp s : ℝ) : EReal) by push_cast; rfl]
    show (if 1 + Real.exp s ≤ 0 then (⊥ : EReal) else _) = _
    rw [if_neg (by have := Real.exp_pos s; linarith)]
  have zero : ∃ r : ℝ, Ideal.log1p (Ideal.exp (⊥ : EReal)) = r := by
    refine ⟨0, ?_⟩
    rw [Ideal.exp_bot]
    unfold Ideal.log1p
    rw [add_zero]
    show (if (1 : ℝ) ≤ 0 then (⊥ : EReal) else (Real.log 1 : EReal)) = _
    rw [if_neg (by norm_num), Real.log_one]
  induction g with
  | bot => simpa using zero
  | top => simpa using zero
  | coe r =>
    have e : -max (r : EReal) (-(r : EReal)) = ((-max r (-r) : ℝ) : EReal) := by
      rw [EReal.coe_neg, ← EReal.coe_neg r, EReal.coe_strictMono.monotone.map_max]
    rw [e]
    exact key _

/-- The plain formula, `-(max (-g) 0 + log (1 + exp (-|-g|)))`, is the kernel's. -/
theorem lsg_plain (g a : EReal) :
    -(Scalar.select (Ideal.cmp .une (-g - 0) (-g - 0)) a (max (-g) 0 + Ideal.log1p (Ideal.exp (-max (-g - 0) (-(-g - 0)))))) = lsg g := by
  have e : Ideal.cmp .une (-g - 0) (-g - 0) = 0#1 := by simp [Ideal.cmp]
  rw [e, Scalar.select, if_neg (by decide)]
  simp only [sub_zero, neg_neg]
  unfold lsg
  rw [max_comm (-g) g, zero_sub]
  obtain ⟨r, hr⟩ := log_real g
  rw [hr, EReal.neg_add (Or.inr (EReal.coe_ne_top r)) (Or.inr (EReal.coe_ne_bot r))]
  congr 1
  rcases le_total g 0 with h | h
  · rw [min_eq_left h, max_eq_left (by simpa using h), neg_neg]
  · rw [min_eq_right h, max_eq_right (by simpa using h), neg_zero]

/-! ## Columns of the projection -/

variable (x0 : FVec Ideal S32768x2048 .f32) (x1 : FVec Ideal S2048 .f32) (x2 : FVec Ideal S2048x6160 .f32) (x3 : FVec Ideal S16 .f32)

/-- A normalised row times a column of the weights. -/
def col (i : Fin 32768) (q : Fin 6160) : EReal := ∑ k : Fin 2048, nrm (fun k => x0 (ix2 i k)) (fun k => x1 (ix1 k)) k * x2 (ix2 k q)

theorem ref12 (i : Fin 32768) (k : Fin 2048) : val_main_v12 (F := Ideal) x0 x1 (ix2 i k) = nrm (fun k => x0 (ix2 i k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, nrm]

theorem ref13 (i : Fin 32768) (q : Fin 6160) : val_main_v13 (F := Ideal) x0 x1 x2 (ix2 i q) = col x0 x1 x2 i q := by
  rw [val_main_v13_apply]
  refine Finset.sum_congr rfl fun k _ => ?_
  have el : lidx_main_v13 (ix2 i q) k = ix2 i k := funext fun a => match a with | ⟨0, _⟩ => rfl | ⟨1, _⟩ => rfl
  have er : ridx_main_v13 (ix2 i q) k = ix2 k q := funext fun a => match a with | ⟨0, _⟩ => rfl | ⟨1, _⟩ => rfl
  rw [el, er, ref12]

/-- The column of the weights a column of the wide result takes. -/
def src (j : Fin 5120) : Fin 6160 := ⟨if j.val < 3072 then j.val else if j.val < 4096 then j.val + 2048 else j.val - 1024, by split_ifs <;> omega⟩

theorem ref32 (i : Fin 32768) (j : Fin 5120) : val_main_v32 (F := Ideal) x0 x1 x2 (ix2 i j) = col x0 x1 x2 i (src j) := by
  rw [← ref13]
  unfold val_main_v32 val_main_v14 val_main_v15 val_main_v16 val_main_v17 val_main_v18 val_main_v20
  generalize val_main_v13 (F := Ideal) x0 x1 x2 = y
  pointwise []
  split_ifs <;> exact congrArg (fun q => y (ix2 i q)) (Fin.ext (by simp only [src]; split_ifs <;> omega))

theorem ref33 (i : Fin 32768) (l : Fin 1024) : @Eq EReal (val_main_v33 (F := Ideal) x0 x1 x2 (ix2 i l)) (col x0 x1 x2 i ⟨4096 + l.val, by omega⟩) := by
  rw [← ref13]
  unfold val_main_v33 val_main_v19
  generalize val_main_v13 (F := Ideal) x0 x1 x2 = y
  pointwise []

theorem ref34_lo (i : Fin 32768) (l : Fin 8) : val_main_v34 (F := Ideal) x0 x1 x2 x3 (ix2 i ⟨l.val, by omega⟩) = col x0 x1 x2 i ⟨6144 + l.val, by omega⟩ + x3 (ix1 ⟨l.val, by omega⟩) := by
  rw [← ref13]
  unfold val_main_v34 val_main_v26 val_main_v25 val_main_v24 val_main_v23 val_main_v21
  generalize val_main_v13 (F := Ideal) x0 x1 x2 = y
  pointwise [val_main_call1_v0, val_main_c]

theorem ref34_hi (i : Fin 32768) (l : Fin 128) (h : ¬ l.val < 8) : val_main_v34 (F := Ideal) x0 x1 x2 x3 (ix2 i l) = (0 : EReal) := by
  unfold val_main_v34
  generalize val_main_v26 (F := Ideal) x0 x1 x2 x3 = y
  pointwise [val_main_call1_v0, val_main_c]
  rw [dif_neg h]
  show (((0#32 : BitVec 32).toInt : ℝ) : EReal) = 0
  simp

theorem ref30 (i : Fin 32768) (l : Fin 8) : val_main_v30 (F := Ideal) x0 x1 x2 x3 (ix2 i l) = col x0 x1 x2 i ⟨6152 + l.val, by omega⟩ + x3 (ix1 ⟨8 + l.val, by omega⟩) := by
  rw [← ref13]
  unfold val_main_v30 val_main_v29 val_main_v28 val_main_v27 val_main_v22
  generalize val_main_v13 (F := Ideal) x0 x1 x2 = y
  pointwise []

theorem ref31 (i : Fin 32768) (l : Fin 8) : val_main_v31 (F := Ideal) x0 x1 x2 x3 (ix2 i l) = lsg (col x0 x1 x2 i ⟨6152 + l.val, by omega⟩ + x3 (ix1 ⟨8 + l.val, by omega⟩)) := by
  rw [← ref30, ← lsg_plain _ (-(val_main_v30 (F := Ideal) x0 x1 x2 x3 (ix2 i l)) + 0)]
  unfold val_main_v31 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0 val_main_call0_call0_cst
  generalize val_main_v30 (F := Ideal) x0 x1 x2 x3 = y
  pointwise []
  rfl

theorem ref35_lo (i : Fin 32768) (l : Fin 8) : val_main_v35 (F := Ideal) x0 x1 x2 x3 (ix2 i ⟨l.val, by omega⟩) = lsg (col x0 x1 x2 i ⟨6152 + l.val, by omega⟩ + x3 (ix1 ⟨8 + l.val, by omega⟩)) := by
  rw [← ref31]
  unfold val_main_v35
  generalize val_main_v31 (F := Ideal) x0 x1 x2 x3 = y
  pointwise []

theorem ref35_hi (i : Fin 32768) (l : Fin 128) (h : ¬ l.val < 8) : val_main_v35 (F := Ideal) x0 x1 x2 x3 (ix2 i l) = (0 : EReal) := by
  unfold val_main_v35
  generalize val_main_v31 (F := Ideal) x0 x1 x2 x3 = y
  pointwise [val_main_call2_v0, val_main_c_2]
  rw [dif_neg h]
  show (((0#32 : BitVec 32).toInt : ℝ) : EReal) = 0
  simp

end Cert.Proj

end
-- ==== Proof.ProjFinal.lean ====
/- The four arrays the projection kernel leaves are the plain projection's four results. -/
module

public import proofs.«01_k».proof.Proof.ProjRows
public import proofs.«01_k».proof.Proof.ProjRef
public import proofs.«01_k».proof.Proof.Gen.Kernel2Ideal.Value
public import Idealize.ShloMosaic.Lib.Pipeline.ValueKit
public import Idealize.ShloMosaic.Lib.Claim
public import proofs.«01_k».proof.Defs

@[expose] public section

set_option maxRecDepth 16384
set_option maxHeartbeats 1000000

noncomputable section

namespace Cert.Proj

open Cert.Kernel2Ideal Cert.Kernel2Ideal.Gen Idealize.ShloMosaic Idealize.ShloMosaic.Tactic Idealize.ShloMosaic.TcCoe
open Cert.Reference2Ideal.Read (val_main_v32 val_main_v33 val_main_v34 val_main_v35)

variable (m : (ℓ : Loc nD τ sig) → Buf (Elt Ideal) ℓ) (c : Dev nD) (t : Fin cfg0.N)

/-- The row of the activations a row of a block is. -/
def row (t : Fin cfg0.N) (r : Fin 256) : Fin 32768 := ⟨t.val * 256 + r.val, by have : t.val < 128 := t.isLt; omega⟩
theorem row_val (t : Fin cfg0.N) (r : Fin 256) : (row t r).val = t.val * 256 + r.val := rfl

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)

theorem emb5 (r : Fin 256) (k : Fin 5120) : (win0_5.blk t).view.emb (ix2 r k) = ix2 (row t r) k := by blk_ext [at5, row_val]
theorem emb6 (r : Fin 256) (k : Fin 1024) : (win0_6.blk t).view.emb (ix2 r k) = ix2 (row t r) k := by blk_ext [at6, row_val]
theorem emb7 (r : Fin 256) (k : Fin 128) : (win0_7.blk t).view.emb (ix2 r k) = ix2 (row t r) k := by blk_ext [at7, row_val]
theorem emb8 (r : Fin 256) (k : Fin 128) : (win0_8.blk t).view.emb (ix2 r k) = ix2 (row t r) k := by blk_ext [at8, row_val]

/-! ## The arrays the host prepares -/

theorem V_v2 : V m c main_v2 = (truncf .bf16 (pad S2048x128 ![0, 0] ![0, 112] ![0, 0] (extractStridedSlice S2048x16 ![0, 6144] (m ((c : Thread nD τ).loc main_arg2)) slices_S2048x6160_S2048x16_0_6144) (sitofp .f32 (constantI S_ 32 0#32) : FVec Ideal S_ .f32) pads_S2048x16_S2048x128_000_01120 h_S_) bitsLt_bf16_f32 : FVec Ideal S2048x128 .bf16) := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp <;> rfl

theorem V_v3 : V m c main_v3 = shapeCast S1x2048 (m ((c : Thread nD τ).loc main_arg1)) shapeCasts_S2048_S1x2048 := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp <;> rfl

theorem V_v4 : V m c main_v4 = (truncf .bf16 (m ((c : Thread nD τ).loc main_arg2)) bitsLt_bf16_f32 : FVec Ideal S2048x6160 .bf16) := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp <;> rfl

theorem V_v6 : V m c main_v6 = shapeCast S1x128 (pad S128 ![0] ![112] ![0] (m ((c : Thread nD τ).loc main_arg3)) (sitofp .f32 (constantI S_ 32 0#32) : FVec Ideal S_ .f32) pads_S16_S128_01120 h_S_) shapeCasts_S128_S1x128 := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp <;> rfl

/-! ## The blocks at an index -/

theorem blk0 (r : Fin 256) (k : Fin 2048) : @Eq EReal ((iblk m c 0 t : Vec Ideal S256x2048 .f32) (ix2 r k)) ((m ((c : Thread nD τ).loc main_arg0)) (ix2 (row t r) k)) := by
  have e : (win0_0.blk t).view.emb (ix2 r k) = ix2 (row t r) k := by blk_ext [at0, row_val]
  show V m c main_arg0 ((win0_0.blk t).view.emb (ix2 r k)) = _
  rw [e, V_main_arg0]

theorem blk1 (k : Fin 2048) : @Eq EReal ((iblk m c 1 t : Vec Ideal S1x2048 .f32) (ix2 0 k)) ((m ((c : Thread nD τ).loc main_arg1)) (ix1 k)) := by
  have e : (win0_1.blk t).view.emb (ix2 0 k) = ix2 0 k := by blk_ext [at1, row_val]
  show V m c main_v3 ((win0_1.blk t).view.emb (ix2 0 k)) = _
  rw [e, V_v3]
  pointwise []

theorem blk2 (k : Fin 2048) (q : Fin 6160) : @Eq EReal ((iblk m c 2 t : Vec Ideal S2048x6160 .bf16) (ix2 k q)) ((m ((c : Thread nD τ).loc main_arg2)) (ix2 k q)) := by
  have e : (win0_2.blk t).view.emb (ix2 k q) = ix2 k q := by blk_ext [at2, row_val]
  show V m c main_v4 ((win0_2.blk t).view.emb (ix2 k q)) = _
  rw [e, V_v4]
  pointwise []

theorem blk3 (k : Fin 2048) (l : Fin 16) : @Eq EReal ((iblk m c 3 t : Vec Ideal S2048x128 .bf16) (ix2 k ⟨l.val, by omega⟩)) ((m ((c : Thread nD τ).loc main_arg2)) (ix2 k ⟨6144 + l.val, by omega⟩)) := by
  have e : (win0_3.blk t).view.emb (ix2 k ⟨l.val, by omega⟩) = ix2 k ⟨l.val, by omega⟩ := by blk_ext [at3, row_val]
  show V m c main_v2 ((win0_3.blk t).view.emb (ix2 k ⟨l.val, by omega⟩)) = _
  rw [e, V_v2]
  pointwise []

theorem blk4 (l : Fin 16) : @Eq EReal ((iblk m c 4 t : Vec Ideal S1x128 .f32) (ix2 0 ⟨l.val, by omega⟩)) ((m ((c : Thread nD τ).loc main_arg3)) (ix1 l)) := by
  have e : (win0_4.blk t).view.emb (ix2 0 ⟨l.val, by omega⟩) = ix2 0 ⟨l.val, by omega⟩ := by blk_ext [at4, row_val]
  show V m c main_v6 ((win0_4.blk t).view.emb (ix2 0 ⟨l.val, by omega⟩)) = _
  rw [e, V_v6]
  pointwise []
  exact dif_pos fun a => by
    match a with
    | ⟨0, _⟩ => exact l.isLt

theorem xh_blk (r : Fin 256) (k : Fin 2048) : @Eq EReal (xh (iblk m c 0 t) (iblk m c 1 t) (ix2 r k)) (nrm (fun k => (m ((c : Thread nD τ).loc main_arg0)) (ix2 (row t r) k)) (fun k => (m ((c : Thread nD τ).loc main_arg1)) (ix1 k)) k) :=
  congrArg₂ (fun a g => nrm a g k) (funext fun k => blk0 m c t r k) (funext fun k => blk1 m c t k)

theorem col11 (x : S256x1024.Idx) (i : Fin 32768) (q : Fin 6160) (hi : i.val = t.val * 256 + (x 0).val) (hq : q.val = 0 + (x 1).val) :
    @Eq EReal (k0_pay11 (xh (iblk m c 0 t) (iblk m c 1 t)) (View.ld (iblk m c 2 t) (Rect.unit (s := S2048x6160) ![0, 0] S2048x1024.size inb_S2048x6160_S2048x1024_0_0)) x) (col (m ((c : Thread nD τ).loc main_arg0)) (m ((c : Thread nD τ).loc main_arg1)) (m ((c : Thread nD τ).loc main_arg2)) i q) := by
  obtain ⟨r, l, rfl⟩ : ∃ r l, x = ix2 r l := ⟨x 0, x 1, eq_ix2 x⟩
  obtain rfl : i = row t r := Fin.ext hi
  have hb : 0 + l.val < 6160 := by omega
  obtain rfl : q = ⟨0 + l.val, hb⟩ := Fin.ext hq
  exact (pay11_at _ _ r l).trans (Finset.sum_congr rfl fun k _ => congrArg₂ (fun a b : EReal => a * b) (xh_blk m c t r k) (blk2 m c t k _))

theorem col1 (x : S256x1024.Idx) (i : Fin 32768) (q : Fin 6160) (hi : i.val = t.val * 256 + (x 0).val) (hq : q.val = 1024 + (x 1).val) :
    @Eq EReal (k0_pay1 (xh (iblk m c 0 t) (iblk m c 1 t)) (View.ld (iblk m c 2 t) (Rect.unit (s := S2048x6160) ![0, 1024] ![2048, 1024] inb_S2048x6160_S2048x1024_0_1024)) x) (col (m ((c : Thread nD τ).loc main_arg0)) (m ((c : Thread nD τ).loc main_arg1)) (m ((c : Thread nD τ).loc main_arg2)) i q) := by
  obtain ⟨r, l, rfl⟩ : ∃ r l, x = ix2 r l := ⟨x 0, x 1, eq_ix2 x⟩
  obtain rfl : i = row t r := Fin.ext hi
  have hb : 1024 + l.val < 6160 := by omega
  obtain rfl : q = ⟨1024 + l.val, hb⟩ := Fin.ext hq
  exact (pay1_at _ _ r l).trans (Finset.sum_congr rfl fun k _ => congrArg₂ (fun a b : EReal => a * b) (xh_blk m c t r k) (blk2 m c t k _))

theorem col2 (x : S256x1024.Idx) (i : Fin 32768) (q : Fin 6160) (hi : i.val = t.val * 256 + (x 0).val) (hq : q.val = 2048 + (x 1).val) :
    @Eq EReal (k0_pay2 (xh (iblk m c 0 t) (iblk m c 1 t)) (View.ld (iblk m c 2 t) (Rect.unit (s := S2048x6160) ![0, 2048] ![2048, 1024] inb_S2048x6160_S2048x1024_0_2048)) x) (col (m ((c : Thread nD τ).loc main_arg0)) (m ((c : Thread nD τ).loc main_arg1)) (m ((c : Thread nD τ).loc main_arg2)) i q) := by
  obtain ⟨r, l, rfl⟩ : ∃ r l, x = ix2 r l := ⟨x 0, x 1, eq_ix2 x⟩
  obtain rfl : i = row t r := Fin.ext hi
  have hb : 2048 + l.val < 6160 := by omega
  obtain rfl : q = ⟨2048 + l.val, hb⟩ := Fin.ext hq
  exact (pay2_at _ _ r l).trans (Finset.sum_congr rfl fun k _ => congrArg₂ (fun a b : EReal => a * b) (xh_blk m c t r k) (blk2 m c t k _))

theorem col3 (x : S256x1024.Idx) (i : Fin 32768) (q : Fin 6160) (hi : i.val = t.val * 256 + (x 0).val) (hq : q.val = 5120 + (x 1).val) :
    @Eq EReal (k0_pay3 (xh (iblk m c 0 t) (iblk m c 1 t)) (View.ld (iblk m c 2 t) (Rect.unit (s := S2048x6160) ![0, 5120] ![2048, 1024] inb_S2048x6160_S2048x1024_0_5120)) x) (col (m ((c : Thread nD τ).loc main_arg0)) (m ((c : Thread nD τ).loc main_arg1)) (m ((c : Thread nD τ).loc main_arg2)) i q) := by
  obtain ⟨r, l, rfl⟩ : ∃ r l, x = ix2 r l := ⟨x 0, x 1, eq_ix2 x⟩
  obtain rfl : i = row t r := Fin.ext hi
  have hb : 5120 + l.val < 6160 := by omega
  obtain rfl : q = ⟨5120 + l.val, hb⟩ := Fin.ext hq
  exact (pay3_at _ _ r l).trans (Finset.sum_congr rfl fun k _ => congrArg₂ (fun a b : EReal => a * b) (xh_blk m c t r k) (blk2 m c t k _))

theorem col4 (x : S256x1024.Idx) (i : Fin 32768) (q : Fin 6160) (hi : i.val = t.val * 256 + (x 0).val) (hq : q.val = 3072 + (x 1).val) :
    @Eq EReal (k0_pay4 (xh (iblk m c 0 t) (iblk m c 1 t)) (View.ld (iblk m c 2 t) (Rect.unit (s := S2048x6160) ![0, 3072] ![2048, 1024] inb_S2048x6160_S2048x1024_0_3072)) x) (col (m ((c : Thread nD τ).loc main_arg0)) (m ((c : Thread nD τ).loc main_arg1)) (m ((c : Thread nD τ).loc main_arg2)) i q) := by
  obtain ⟨r, l, rfl⟩ : ∃ r l, x = ix2 r l := ⟨x 0, x 1, eq_ix2 x⟩
  obtain rfl : i = row t r := Fin.ext hi
  have hb : 3072 + l.val < 6160 := by omega
  obtain rfl : q = ⟨3072 + l.val, hb⟩ := Fin.ext hq
  exact (pay4_at _ _ r l).trans (Finset.sum_congr rfl fun k _ => congrArg₂ (fun a b : EReal => a * b) (xh_blk m c t r k) (blk2 m c t k _))

theorem col5 (x : S256x1024.Idx) (i : Fin 32768) (q : Fin 6160) (hi : i.val = t.val * 256 + (x 0).val) (hq : q.val = 4096 + (x 1).val) :
    @Eq EReal (k0_pay5 (xh (iblk m c 0 t) (iblk m c 1 t)) (View.ld (iblk m c 2 t) (Rect.unit (s := S2048x6160) ![0, 4096] ![2048, 1024] inb_S2048x6160_S2048x1024_0_4096)) x) (col (m ((c : Thread nD τ).loc main_arg0)) (m ((c : Thread nD τ).loc main_arg1)) (m ((c : Thread nD τ).loc main_arg2)) i q) := by
  obtain ⟨r, l, rfl⟩ : ∃ r l, x = ix2 r l := ⟨x 0, x 1, eq_ix2 x⟩
  obtain rfl : i = row t r := Fin.ext hi
  have hb : 4096 + l.val < 6160 := by omega
  obtain rfl : q = ⟨4096 + l.val, hb⟩ := Fin.ext hq
  exact (pay5_at _ _ r l).trans (Finset.sum_congr rfl fun k _ => congrArg₂ (fun a b : EReal => a * b) (xh_blk m c t r k) (blk2 m c t k _))

theorem gate_blk (r : Fin 256) (l : Fin 16) :
    gate (xh (iblk m c 0 t) (iblk m c 1 t)) (iblk m c 3 t) (iblk m c 4 t) r ⟨l.val, by omega⟩ = col (m ((c : Thread nD τ).loc main_arg0)) (m ((c : Thread nD τ).loc main_arg1)) (m ((c : Thread nD τ).loc main_arg2)) (row t r) ⟨6144 + l.val, by omega⟩ + (m ((c : Thread nD τ).loc main_arg3)) (ix1 l) :=
  congrArg₂ (fun a b : EReal => a + b) (Finset.sum_congr rfl fun k _ => congrArg₂ (fun a b : EReal => a * b) (xh_blk m c t r k) (blk3 m c t k l)) (blk4 m c t l)

/-! ## The four arrays -/

theorem final5 : (dats m 0 c).arrAt 5 cfg0.N = val_main_v32 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  dsimp only
  rw [out5]
  obtain ⟨r, j, rfl⟩ : ∃ (r : Fin 256) (j : Fin 5120), y = ix2 r j := ⟨y 0, y 1, eq_ix2 y⟩
  rw [emb5, ref32]
  canon_tiles x h
  · exact col4 m c t x (row t r) (src j) (congrArg (t.val * 256 + ·) h0) (by
      have h : j.val = 4096 + (x 1).val := h1
      show (if j.val < 3072 then j.val else if j.val < 4096 then j.val + 2048 else j.val - 1024) = _
      split_ifs <;> omega)
  · exact col3 m c t x (row t r) (src j) (congrArg (t.val * 256 + ·) h0) (by
      have h : j.val = 3072 + (x 1).val := h1
      show (if j.val < 3072 then j.val else if j.val < 4096 then j.val + 2048 else j.val - 1024) = _
      split_ifs <;> omega)
  · exact col2 m c t x (row t r) (src j) (congrArg (t.val * 256 + ·) h0) (by
      have h : j.val = 2048 + (x 1).val := h1
      show (if j.val < 3072 then j.val else if j.val < 4096 then j.val + 2048 else j.val - 1024) = _
      split_ifs <;> omega)
  · exact col1 m c t x (row t r) (src j) (congrArg (t.val * 256 + ·) h0) (by
      have h : j.val = 1024 + (x 1).val := h1
      show (if j.val < 3072 then j.val else if j.val < 4096 then j.val + 2048 else j.val - 1024) = _
      split_ifs <;> omega)
  · exact col11 m c t x (row t r) (src j) (congrArg (t.val * 256 + ·) h0) (by
      have h : j.val = 0 + (x 1).val := h1.trans (Nat.zero_add _).symm
      show (if j.val < 3072 then j.val else if j.val < 4096 then j.val + 2048 else j.val - 1024) = _
      split_ifs <;> omega)

theorem final6 : (dats m 0 c).arrAt 6 cfg0.N = val_main_v33 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold outsAt0
  dsimp only
  rw [out6]
  obtain ⟨r, l, rfl⟩ : ∃ (r : Fin 256) (l : Fin 1024), y = ix2 r l := ⟨y 0, y 1, eq_ix2 y⟩
  rw [emb6]
  exact (col5 m c t (ix2 r l) _ _ rfl rfl).trans (ref33 _ _ _ _ _).symm

theorem final7 : (dats m 0 c).arrAt 7 cfg0.N = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold outsAt0
  dsimp only
  rw [out7]
  obtain ⟨r, l, rfl⟩ : ∃ (r : Fin 256) (l : Fin 128), y = ix2 r l := ⟨y 0, y 1, eq_ix2 y⟩
  rw [emb7]
  by_cases h : l.val < 8
  · refine (pay9_lo _ _ _ r l h).trans (Eq.trans ?_ (ref34_lo _ _ _ _ (row t r) ⟨l.val, h⟩).symm)
    exact gate_blk m c t r ⟨l.val, by omega⟩
  · exact (pay9_hi _ _ _ r l h).trans (ref34_hi _ _ _ _ (row t r) l h).symm

theorem final8 : (dats m 0 c).arrAt 8 cfg0.N = val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  unfold outsAt0
  dsimp only
  rw [out8]
  obtain ⟨r, l, rfl⟩ : ∃ (r : Fin 256) (l : Fin 128), y = ix2 r l := ⟨y 0, y 1, eq_ix2 y⟩
  rw [emb8]
  by_cases h : l.val < 8
  · refine (pay10_lo _ _ _ r l h).trans (Eq.trans ?_ (ref35_lo _ _ _ _ (row t r) ⟨l.val, h⟩).symm)
    refine (congrArg lsg (gate_blk m c t r ⟨8 + l.val, by omega⟩)).trans ?_
    congr 3
    exact Fin.ext (by show 6144 + (8 + l.val) = 6152 + l.val; omega)
  · exact (pay10_hi _ _ _ r l h).trans (ref35_hi _ _ _ _ (row t r) l h).symm

end Cert.Proj

end
-- ==== Proof.ProjAlgebra.lean ====
/- The projection kernel and the plain projection end with the same four results. -/
module

public import proofs.«01_k».proof.Proof.ProjFinal
public import proofs.«01_k».proof.Proof.Gen.Reference2Ideal.Run

@[expose] public section

set_option maxRecDepth 16384
set_option maxHeartbeats 1000000

noncomputable section

namespace Cert.Proj

open Idealize.ShloMosaic Idealize.SL.Sem

/-- The plain projection's run leaves its arguments, and no semaphore counts. -/
theorem frame_ref : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    Cert.Kernel2Ideal.Value.run_blocks m ρ, ?_⟩
  refine (θ_run Cert.Reference2Ideal.defs _ _).mono (fun _ h c => ?_) (Cert.Reference2Ideal.Value.run (F := Ideal) m' ρ')
  obtain ⟨h1, h2, h3, h4, hk⟩ := h c
  obtain ⟨a0, a1, a2, a3⟩ := hagree c
  refine ⟨h1.trans ?_, h2.trans ?_, h3.trans ?_, h4.trans ?_, hk⟩
  · refine (Cert.Reference2Ideal.Read.val_main_v32_eq m' c).trans ?_
    rw [a0, a1, a2]
    exact (final5 m c).symm
  · refine (Cert.Reference2Ideal.Read.val_main_v33_eq _ _ _).trans ?_
    rw [a0, a1, a2]
    exact (final6 m c).symm
  · refine (Cert.Reference2Ideal.Read.val_main_v34_eq _ _ _ _).trans ?_
    rw [a0, a1, a2, a3]
    exact (final7 m c).symm
  · refine (Cert.Reference2Ideal.Read.val_main_v35_eq m' c).trans ?_
    rw [a0, a1, a2, a3]
    exact (final8 m c).symm

end Cert.Proj

end
-- ==== Proof.OutpRows.lean ====
/- What the output projection's body leaves in its first output, at each of the three kinds of grid point. -/
module

public import proofs.«01_k».proof.Proof.Gen.Kernel3Ideal.Value
public import Idealize.ShloMosaic.Lib.Pipeline.ValueKit
public import Idealize.ShloMosaic.Lib.Pointwise
public import Idealize.ShloMosaic.Lib.KernelVsHost

@[expose] public section

set_option maxRecDepth 16384
set_option maxHeartbeats 1000000

noncomputable section

namespace Cert.Outp

open Cert.Kernel3Ideal Cert.Kernel3Ideal.Gen Idealize.ShloMosaic Idealize.ShloMosaic.Tactic Idealize.ShloMosaic.TcCoe

/-- A row of the block times a column of the weights, added to the block's residual. -/
theorem pay7_at (v : Vec Ideal S512x2048 .f32) (a : Vec Ideal S512x2048 .bf16) (w : Vec Ideal S2048x2048 .bf16) (r : Fin 512) (j : Fin 2048) :
    @Eq EReal (k0_pay7 v a w (ix2 r j)) ((v (ix2 r j) : EReal) + ∑ k : Fin 2048, (a (ix2 r k) : EReal) * w (ix2 k j)) := by
  pointwise [k0_pay7]

variable (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x2048 .f32) (harg7 : arg7.IsWhole) (arg8 : Memref sig .tc .vmem S512x2x1024 .bf16) (harg8 : arg8.IsWhole) (arg9 : Memref sig .tc .vmem S1x8x512 .i32) (harg9 : arg9.IsWhole) (arg10 : Memref sig .tc .vmem S512x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x2048 .f32) (harg13 : arg13.IsWhole) (arg14 : Memref sig .tc .vmem S512x2048 .f32) (harg14 : arg14.IsWhole)
  (x0 : Vec Ideal S512x2048 .bf16) (x1 : Vec Ideal S2048x2048 .bf16) (x2 : Vec Ideal S512x2048 .f32) (x3 : Vec Ideal S1x2048 .f32) (x4 : Vec Ideal S2048x128 .bf16) (x5 : Vec Ideal S1x128 .f32) (xs0 : Vec Ideal S1x128 .f32) (xs1 : Vec Ideal S512x2048 .f32)

theorem outA (hc0 : cond0_0 i) (hc1 : cond0_1 i) (hc2 : ¬cond0_2 i) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 = k0_pay7 x2 x0 x1 := by
  unfold out0_A_6
  rw [View.read_writes_junk_eq_canon]
  frame_open
  simp only [View.readAt_eq_ld, Memref.IsWhole.read_unread]
  refine (View.canon_cons_unit_lit (S := S512x2048) _ _ [] (by decide)).trans ?_
  exact congr (congrArg₂ k0_pay7 (View.ld_unit_lit (S := S512x2048) _ x2 (by decide)) (View.ld_unit_lit (S := S512x2048) _ x0 (by decide))) (View.ld_unit_lit (S := S2048x2048) _ x1 (by decide))

theorem outB (hc0 : ¬cond0_0 i) (hc1 : ¬cond0_1 i) (hc2 : cond0_2 i) :
    out0_B_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 = k0_pay7 x2 x0 x1 := by
  unfold out0_B_6
  rw [View.read_writes_junk_eq_canon]
  frame_open
  simp only [View.readAt_eq_ld, Memref.IsWhole.read_unread]
  refine (View.canon_cons_unit_lit (S := S512x2048) _ _ [] (by decide)).trans ?_
  exact congr (congrArg₂ k0_pay7 (View.ld_unit_lit (S := S512x2048) _ x2 (by decide)) (View.ld_unit_lit (S := S512x2048) _ x0 (by decide))) (View.ld_unit_lit (S := S2048x2048) _ x1 (by decide))

theorem outC (hc0 : ¬cond0_0 i) (hc1 : cond0_1 i) (hc2 : ¬cond0_2 i) :
    out0_C_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 = k0_pay7 x2 x0 x1 := by
  unfold out0_C_6
  rw [View.read_writes_junk_eq_canon]
  frame_open
  simp only [View.readAt_eq_ld, Memref.IsWhole.read_unread]
  refine (View.canon_cons_unit_lit (S := S512x2048) _ _ [] (by decide)).trans ?_
  exact congr (congrArg₂ k0_pay7 (View.ld_unit_lit (S := S512x2048) _ x2 (by decide)) (View.ld_unit_lit (S := S512x2048) _ x0 (by decide))) (View.ld_unit_lit (S := S2048x2048) _ x1 (by decide))

end Cert.Outp

end
-- ==== Proof.OutpFinal.lean ====
/- The array of hidden states the output projection leaves is the plain projection's result. -/
module

public import proofs.«01_k».proof.Proof.OutpRows
public import proofs.«01_k».proof.Proof.Gen.Reference3Ideal.Read
public import Idealize.ShloMosaic.Lib.Pipeline.ValueKit
public import Idealize.ShloMosaic.Lib.Claim
public import proofs.«01_k».proof.Defs

@[expose] public section

set_option maxRecDepth 16384
set_option maxHeartbeats 1000000

noncomputable section

namespace Cert.Outp

open Cert.Kernel3Ideal Cert.Kernel3Ideal.Gen Idealize.ShloMosaic Idealize.ShloMosaic.Tactic Idealize.ShloMosaic.TcCoe
open Cert.Reference3Ideal.Read (val_main_v2)

variable (m : (ℓ : Loc nD τ sig) → Buf (Elt Ideal) ℓ) (c : Dev nD) (t : Fin cfg0.N)

/-- The row of the activations a row of a block is; the last point works on the block before it again. -/
def row (t : Fin cfg0.N) (r : Fin 512) : Fin 32768 := ⟨min t.val 63 * 512 + r.val, by omega⟩
theorem row_val (t : Fin cfg0.N) (r : Fin 512) : (row t r).val = min t.val 63 * 512 + r.val := rfl

theorem at0 : ∀ t : Fin cfg0.N, win0_0.index t = ![min t.val 63, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![min t.val 63, 0] := (by decide +kernel : ∀ t : Fin grid0.N, _)
theorem at6 : ∀ t : Fin cfg0.N, win0_6.index t = ![min t.val 63, 0] := (by decide +kernel : ∀ t : Fin grid0.N, _)

theorem emb6 (r : Fin 512) (k : Fin 2048) : (win0_6.blk t).view.emb (ix2 r k) = ix2 (row t r) k := by blk_ext [at6, row_val]

/-- The weights the kernel reads are the launched weights, narrowed. -/
theorem V_v6 : V m c main_v6 = (truncf .bf16 (m ((c : Thread nD τ).loc main_arg2)) bitsLt_bf16_f32 : FVec Ideal S2048x2048 .bf16) := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp <;> rfl

/-! ## The blocks at an index -/

theorem blk0 (r : Fin 512) (k : Fin 2048) : @Eq EReal ((iblk m c 0 t : Vec Ideal S512x2048 .bf16) (ix2 r k)) ((m ((c : Thread nD τ).loc main_arg0)) (ix2 (row t r) k)) := by
  have e : (win0_0.blk t).view.emb (ix2 r k) = ix2 (row t r) k := by blk_ext [at0, row_val]
  show V m c main_arg0 ((win0_0.blk t).view.emb (ix2 r k)) = _
  rw [e, V_main_arg0]

theorem blk1 (k q : Fin 2048) : @Eq EReal ((iblk m c 1 t : Vec Ideal S2048x2048 .bf16) (ix2 k q)) ((m ((c : Thread nD τ).loc main_arg2)) (ix2 k q)) := by
  have e : (win0_1.blk t).view.emb (ix2 k q) = ix2 k q := by blk_ext [at1, row_val]
  show V m c main_v6 ((win0_1.blk t).view.emb (ix2 k q)) = _
  rw [e, V_v6]
  pointwise []

theorem blk2 (r : Fin 512) (k : Fin 2048) : @Eq EReal ((iblk m c 2 t : Vec Ideal S512x2048 .f32) (ix2 r k)) ((m ((c : Thread nD τ).loc main_arg1)) (ix2 (row t r) k)) := by
  have e : (win0_2.blk t).view.emb (ix2 r k) = ix2 (row t r) k := by blk_ext [at2, row_val]
  show V m c main_arg1 ((win0_2.blk t).view.emb (ix2 r k)) = _
  rw [e, V_main_arg1]

/-- What every point leaves in the first output's block, whichever of the three kinds it is. -/
theorem outs : (outsAt0 m c t.val t.isLt).1 = k0_pay7 (iblk m c 2 t) (iblk m c 0 t) (iblk m c 1 t) := by
  by_cases h1 : t.val % 2 = 0
  · by_cases h0 : t.val % 65 = 0
    · rw [outsAt0_A m c t h0 h1 (by omega)]
      dsimp only
      rw [outA]
    · rw [outsAt0_C m c t h0 h1 (by omega)]
      dsimp only
      rw [outC]
  · rw [outsAt0_B m c t (by have : t.val < 65 := t.isLt; omega) h1 (by omega)]
    dsimp only
    rw [outB]

/-- The plain projection at an index. -/
theorem ref2 (mx : (⟨Cert.Reference3Ideal.S32768x2048, .bf16⟩ : BufTy).Contents (Elt Ideal)) (x : (⟨Cert.Reference3Ideal.S32768x2048, .f32⟩ : BufTy).Contents (Elt Ideal))
    (w : (⟨Cert.Reference3Ideal.S2048x2048, .f32⟩ : BufTy).Contents (Elt Ideal)) (i : Fin 32768) (j : Fin 2048) :
    @Eq EReal (val_main_v2 (F := Ideal) mx x w (ix2 i j)) ((x (ix2 i j) : EReal) + ∑ k : Fin 2048, (mx (ix2 i k) : EReal) * w (ix2 k j)) := by
  refine congrArg (fun s : EReal => (x (ix2 i j) : EReal) + s) ((Cert.Reference3Ideal.Read.val_main_v1_apply mx w (ix2 i j)).trans (Finset.sum_congr rfl fun k _ => ?_))
  exact congrArg₂ (fun a b : EReal => a * b) (congrArg mx (eq_ix2 _)) (congrArg w (eq_ix2 _))

theorem final6 : (dats m 0 c).arrAt 6 cfg0.N = val_main_v2 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, outs]
  obtain ⟨r, j, rfl⟩ : ∃ (r : Fin 512) (j : Fin 2048), y = ix2 r j := ⟨y 0, y 1, eq_ix2 y⟩
  rw [emb6]
  refine (pay7_at _ _ _ r j).trans (Eq.trans ?_ (ref2 _ _ _ (row t r) j).symm)
  exact congrArg₂ (fun a b : EReal => a + b) (blk2 m c t r j) (Finset.sum_congr rfl fun k _ => congrArg₂ (fun a b : EReal => a * b) (blk0 m c t r k) (blk1 m c t k j))

end Cert.Outp

end
-- ==== Proof.OutpAlgebra.lean ====
/- The output projection and the plain one end with the same hidden states; the packed bf16 pairs the kernel also
   writes are read as pairs of numbers by the library's rules, whose statements hold at the shapes here. -/
module

public import proofs.«01_k».proof.Proof.OutpFinal
public import proofs.«01_k».proof.Proof.Gen.Reference3Ideal.Run
public import Idealize.ShloMosaic.Lib.Bf16Pair
public import Idealize.ShloMosaic.Lib.Bf16PairInverse

@[expose] public section

set_option maxRecDepth 16384
set_option maxHeartbeats 1000000

noncomputable section

namespace Cert.Outp

open Idealize.ShloMosaic Idealize.SL.Sem

/-- The plain output projection's run leaves its arguments, and no semaphore counts. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal :=
  ⟨IdealRules.bf16_pair.bufferStatement _ _, IdealRules.bf16_pair.bufferStatement _ _, IdealRules.bf16_pair.statement _ _,
    IdealRules.bf16_pack.statement _⟩

theorem algebraic : Cert.algebraic_Kernel3Ideal_Reference3Ideal := by
  intro m ρ m' ρ' _ hagree
  refine ⟨fun c => (Cert.Kernel3Ideal.Gen.dats m 0 c).arrAt 6 Cert.Kernel3Ideal.cfg0.N,
    (θ_run Cert.Kernel3Ideal.defs _ _).mono (fun _ h c => ?_) (Cert.Kernel3Ideal.Value.run_blocks m ρ), ?_⟩
  · obtain ⟨h1, _, _, _, _, hk⟩ := h c
    exact ⟨h1, hk⟩
  refine (θ_run Cert.Reference3Ideal.defs _ _).mono (fun _ h c => ?_) (Cert.Reference3Ideal.Value.run (F := Ideal) m' ρ')
  obtain ⟨h1, hk⟩ := h c
  obtain ⟨a0, a1, a2, _⟩ := hagree c
  refine ⟨h1.trans ?_, hk⟩
  refine (Cert.Reference3Ideal.Read.val_main_v2_eq _ _ _).trans ?_
  rw [a0, a1, a2]
  exact (final6 m c).symm

end Cert.Outp

end
-- ==== Proof.lean ====
/- The claims of the certificate, from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_forget
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel3
public import proofs.«01_k».proof.Proof.Gen.Kernel2.Skeleton
public import proofs.«01_k».proof.Proof.Gen.Kernel3.Skeleton
public import proofs.«01_k».proof.Proof.Gen.Kernel2.Launch
public import proofs.«01_k».proof.Proof.Gen.Kernel3.Launch
public import proofs.«01_k».proof.Proof.Gen.Kernel2.Points
public import proofs.«01_k».proof.Proof.Gen.Kernel3.Points
public import proofs.«01_k».proof.Proof.Gen.Kernel2.Frame
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Skeleton
public import proofs.«01_k».proof.Proof.Gen.Kernel3Ideal.Skeleton
public import proofs.«01_k».proof.Proof.Gen.Kernel2Ideal.Launch
public import proofs.«01_k».proof.Proof.Gen.Kernel3Ideal.Launch
public import proofs.«01_k».proof.Proof.Gen.Kernel2Ideal.Points
public import proofs.«01_k».proof.Proof.Gen.Kernel3Ideal.Points
public import proofs.«01_k».proof.Proof.Gen.Kernel2Ideal.Frame
public import proofs.«01_k».proof.Proof.Gen.Kernel3Ideal.Frame
public import proofs.«01_k».proof.Proof.Gen.Kernel2Ideal.Value
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Algebra
public import proofs.«01_k».proof.Proof.ProjAlgebra
public import proofs.«01_k».proof.Proof.OutpAlgebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite_forget.Gen.facts,
  fun m ρ _ => Cert.Kernel.Gen.frame m ρ, fun m ρ _ => Cert.KernelIdeal.Gen.frame m ρ, fun m ρ _ => Cert.KernelIdeal.Gen.frame m ρ,
  Cert.Mixer.frame_ref, fun m ρ _ => Cert.Mixer.frame_ref m ρ trivial,
  fun m ρ _ => Cert.Kernel2.Gen.frame m ρ, fun m ρ _ => Cert.Kernel2Ideal.Gen.frame m ρ, Cert.Proj.frame_ref,
    fun m ρ _ => Cert.Kernel3.Gen.frame m ρ, fun m ρ _ => Cert.Kernel3Ideal.Gen.frame m ρ, Cert.Outp.frame_ref,
  trivial, Cert.Mixer.algebraic, trivial, Cert.Proj.algebraic, Cert.Outp.preserves, Cert.Outp.algebraic⟩

end Cert.Proof

end
